-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S512x512 : Shape := ⟨2, ![512, 512]⟩
abbrev S384x512 : Shape := ⟨2, ![384, 512]⟩
abbrev S16 : Shape := ⟨1, ![16]⟩
abbrev S_ : Shape := ⟨0, ![]⟩
abbrev S512x64 : Shape := ⟨2, ![512, 64]⟩
abbrev S512 : Shape := ⟨1, ![512]⟩
abbrev S512x24 : Shape := ⟨2, ![512, 24]⟩
abbrev S24x256 : Shape := ⟨2, ![24, 256]⟩
abbrev S1x256x512 : Shape := ⟨3, ![1, 256, 512]⟩
abbrev S256x512 : Shape := ⟨2, ![256, 512]⟩
abbrev S6x256 : Shape := ⟨2, ![6, 256]⟩
abbrev S6x512 : Shape := ⟨2, ![6, 512]⟩
abbrev S24x512 : Shape := ⟨2, ![24, 512]⟩
abbrev S1 : Shape := ⟨1, ![1]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .bf16⟩
  | .local _ .vmem, ⟨4, _⟩ => ⟨S384x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32 : BitVec 32 := 24#32
  let v160 : BitVec 32 := Scalar.muli v2 c24_i32
  let v161 : Index := Scalar.indexCast v160
  let c0_93 : Index := 0#32
  ![v161.toNat, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32_98 : BitVec 32 := 24#32
  let v168 : BitVec 32 := Scalar.muli v2 c24_i32_98
  let c0_i32_102 : BitVec 32 := 0#32
  ![v168.toNat, 0]
def k0_dev16 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_95 : BitVec 32 := 1#32
  let v165 : BitVec 32 := Scalar.addi v2 c1_i32_95
  let c16_i32_96 : BitVec 32 := 16#32
  let v166 : BitVec 32 := Scalar.remsi v165 c16_i32_96
  let c1_i32_100 : BitVec 32 := 1#32
  let v169 : BitVec 32 := Scalar.muli v166 c1_i32_100
  let v170 : BitVec 32 := Scalar.addi c0_i32_101 v169
  v170.toNat
def k0_dev17 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_104 : BitVec 32 := 2#32
  let v177 : BitVec 32 := Scalar.addi v2 c2_i32_104
  let c16_i32_105 : BitVec 32 := 16#32
  let v178 : BitVec 32 := Scalar.remsi v177 c16_i32_105
  let c1_i32_109 : BitVec 32 := 1#32
  let v181 : BitVec 32 := Scalar.muli v178 c1_i32_109
  let v182 : BitVec 32 := Scalar.addi c0_i32_110 v181
  v182.toNat
def k0_dev18 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_113 : BitVec 32 := 3#32
  let v189 : BitVec 32 := Scalar.addi v2 c3_i32_113
  let c16_i32_114 : BitVec 32 := 16#32
  let v190 : BitVec 32 := Scalar.remsi v189 c16_i32_114
  let c1_i32_118 : BitVec 32 := 1#32
  let v193 : BitVec 32 := Scalar.muli v190 c1_i32_118
  let v194 : BitVec 32 := Scalar.addi c0_i32_119 v193
  v194.toNat
def k0_dev19 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_122 : BitVec 32 := 4#32
  let v201 : BitVec 32 := Scalar.addi v2 c4_i32_122
  let c16_i32_123 : BitVec 32 := 16#32
  let v202 : BitVec 32 := Scalar.remsi v201 c16_i32_123
  let c1_i32_127 : BitVec 32 := 1#32
  let v205 : BitVec 32 := Scalar.muli v202 c1_i32_127
  let v206 : BitVec 32 := Scalar.addi c0_i32_128 v205
  v206.toNat
def k0_dev20 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v213 : BitVec 32 := Scalar.addi v2 c5_i32_131
  let c16_i32_132 : BitVec 32 := 16#32
  let v214 : BitVec 32 := Scalar.remsi v213 c16_i32_132
  let c1_i32_136 : BitVec 32 := 1#32
  let v217 : BitVec 32 := Scalar.muli v214 c1_i32_136
  let v218 : BitVec 32 := Scalar.addi c0_i32_137 v217
  v218.toNat
def k0_dev21 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_140 : BitVec 32 := 6#32
  let v225 : BitVec 32 := Scalar.addi v2 c6_i32_140
  let c16_i32_141 : BitVec 32 := 16#32
  let v226 : BitVec 32 := Scalar.remsi v225 c16_i32_141
  let c1_i32_145 : BitVec 32 := 1#32
  let v229 : BitVec 32 := Scalar.muli v226 c1_i32_145
  let v230 : BitVec 32 := Scalar.addi c0_i32_146 v229
  v230.toNat
def k0_dev22 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_149 : BitVec 32 := 7#32
  let v237 : BitVec 32 := Scalar.addi v2 c7_i32_149
  let c16_i32_150 : BitVec 32 := 16#32
  let v238 : BitVec 32 := Scalar.remsi v237 c16_i32_150
  let c1_i32_154 : BitVec 32 := 1#32
  let v241 : BitVec 32 := Scalar.muli v238 c1_i32_154
  let v242 : BitVec 32 := Scalar.addi c0_i32_155 v241
  v242.toNat
def k0_dev23 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_158 : BitVec 32 := 8#32
  let v249 : BitVec 32 := Scalar.addi v2 c8_i32_158
  let c16_i32_159 : BitVec 32 := 16#32
  let v250 : BitVec 32 := Scalar.remsi v249 c16_i32_159
  let c1_i32_163 : BitVec 32 := 1#32
  let v253 : BitVec 32 := Scalar.muli v250 c1_i32_163
  let v254 : BitVec 32 := Scalar.addi c0_i32_164 v253
  v254.toNat
def k0_dev24 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_167 : BitVec 32 := 9#32
  let v261 : BitVec 32 := Scalar.addi v2 c9_i32_167
  let c16_i32_168 : BitVec 32 := 16#32
  let v262 : BitVec 32 := Scalar.remsi v261 c16_i32_168
  let c1_i32_172 : BitVec 32 := 1#32
  let v265 : BitVec 32 := Scalar.muli v262 c1_i32_172
  let v266 : BitVec 32 := Scalar.addi c0_i32_173 v265
  v266.toNat
def k0_dev25 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_176 : BitVec 32 := 10#32
  let v273 : BitVec 32 := Scalar.addi v2 c10_i32_176
  let c16_i32_177 : BitVec 32 := 16#32
  let v274 : BitVec 32 := Scalar.remsi v273 c16_i32_177
  let c1_i32_181 : BitVec 32 := 1#32
  let v277 : BitVec 32 := Scalar.muli v274 c1_i32_181
  let v278 : BitVec 32 := Scalar.addi c0_i32_182 v277
  v278.toNat
def k0_dev26 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v285 : BitVec 32 := Scalar.addi v2 c11_i32_185
  let c16_i32_186 : BitVec 32 := 16#32
  let v286 : BitVec 32 := Scalar.remsi v285 c16_i32_186
  let c1_i32_190 : BitVec 32 := 1#32
  let v289 : BitVec 32 := Scalar.muli v286 c1_i32_190
  let v290 : BitVec 32 := Scalar.addi c0_i32_191 v289
  v290.toNat
def k0_dev27 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_194 : BitVec 32 := 12#32
  let v297 : BitVec 32 := Scalar.addi v2 c12_i32_194
  let c16_i32_195 : BitVec 32 := 16#32
  let v298 : BitVec 32 := Scalar.remsi v297 c16_i32_195
  let c1_i32_199 : BitVec 32 := 1#32
  let v301 : BitVec 32 := Scalar.muli v298 c1_i32_199
  let v302 : BitVec 32 := Scalar.addi c0_i32_200 v301
  v302.toNat
def k0_dev28 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_203 : BitVec 32 := 13#32
  let v309 : BitVec 32 := Scalar.addi v2 c13_i32_203
  let c16_i32_204 : BitVec 32 := 16#32
  let v310 : BitVec 32 := Scalar.remsi v309 c16_i32_204
  let c1_i32_208 : BitVec 32 := 1#32
  let v313 : BitVec 32 := Scalar.muli v310 c1_i32_208
  let v314 : BitVec 32 := Scalar.addi c0_i32_209 v313
  v314.toNat
def k0_dev29 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_212 : BitVec 32 := 14#32
  let v321 : BitVec 32 := Scalar.addi v2 c14_i32_212
  let c16_i32_213 : BitVec 32 := 16#32
  let v322 : BitVec 32 := Scalar.remsi v321 c16_i32_213
  let c1_i32_217 : BitVec 32 := 1#32
  let v325 : BitVec 32 := Scalar.muli v322 c1_i32_217
  let v326 : BitVec 32 := Scalar.addi c0_i32_218 v325
  v326.toNat
def k0_dev30 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_221 : BitVec 32 := 15#32
  let v333 : BitVec 32 := Scalar.addi v2 c15_i32_221
  let c16_i32_222 : BitVec 32 := 16#32
  let v334 : BitVec 32 := Scalar.remsi v333 c16_i32_222
  let c1_i32_226 : BitVec 32 := 1#32
  let v337 : BitVec 32 := Scalar.muli v334 c1_i32_226
  let v338 : BitVec 32 := Scalar.addi c0_i32_227 v337
  v338.toNat
def k0_off4 (d0 : Dev nD) (c1_i32_244 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v396 : BitVec 32 := Scalar.addi v2 c1_i32_244
  let c16_i32_245 : BitVec 32 := 16#32
  let v397 : BitVec 32 := Scalar.remsi v396 c16_i32_245
  ![v397.toNat]
def k0_off5 (d0 : Dev nD) (c1_i32_244 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v396 : BitVec 32 := Scalar.addi v2 c1_i32_244
  let c16_i32_245 : BitVec 32 := 16#32
  let v397 : BitVec 32 := Scalar.remsi v396 c16_i32_245
  let c24_i32_247 : BitVec 32 := 24#32
  let v399 : BitVec 32 := Scalar.muli v397 c24_i32_247
  let c0_i32_251 : BitVec 32 := 0#32
  ![v399.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S512x256, .f32⟩
  | .hbm, ⟨5, _⟩ => ⟨S64x256x512, .f32⟩
  | .hbm, ⟨6, _⟩ => ⟨S512, .i32⟩
  | .hbm, ⟨7, _⟩ => ⟨S512, .i32⟩
  | .hbm, ⟨8, _⟩ => ⟨S1x512, .i32⟩
  | .hbm, ⟨9, _⟩ => ⟨S512x1, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S1x512, .i32⟩
  | .hbm, ⟨14, _⟩ => ⟨S512x1, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S512x512, .i1⟩
  | .hbm, ⟨19, _⟩ => ⟨S512x512, .i32⟩
  | .hbm, ⟨20, _⟩ => ⟨S_, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x1, .i1⟩
  | .hbm, ⟨52, _⟩ => ⟨S_, .f32⟩
  | .hbm, ⟨53, _⟩ => ⟨S_, .f32⟩
  | .hbm, ⟨54, _⟩ => ⟨S512x512, .i1⟩
  | .hbm, ⟨55, _⟩ => ⟨S512x512, .f32⟩
  | .hbm, ⟨56, _⟩ => ⟨S512x512, .f32⟩
  | .hbm, ⟨57, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Proto.lean ====
/-
# The protocol of the sixteen devices

Each device computes its own 24 rows of the table `y`, sends them to the fifteen others, and multiplies a selection
matrix with the whole table. Three kinds of semaphore carry the exchange:

* the barrier semaphore: a device raises every other device's by one before it does anything else, which says that
  its copy of `y` may be written; a device sends after it has waited for fifteen units;
* the send semaphores: one per step, raised when the step's transfer has read its source;
* the receive semaphores: one per source device, raised when that device's rows have landed.

Every cell is used in one round, round 0. Step `k : Fin 15` of a device `c` concerns the device `peer c k`, which stands
`k + 1` places further round the mesh. The rows lent to a transfer are lent at a sixteenth of a share, so that the
device may read its own rows while its transfers are in flight.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic
public import Idealize.ShloMosaic.Lib.ValueIdxCore

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.ValueIdx (ix2)
open Idealize.ShloMosaic.Pipeline (Dat Cfg Window BodyObligation cellOf)

variable {F : FTy → Type} [FloatOps F]

/-! ## Ghost state: the pipeline's copy of the rounds algebra, and one whose duties are named by the step paying them -/

/-- The rounds algebra of the kernel's own semaphores, a duty named by one of fifteen steps; -/
abbrev UX : Type := URounds (GSem nD τ sig) (Fin 15)
/-- with the pipeline's beside it. -/
abbrev UU : Type := UR sig nD τ × UX

local notation "𝕄" => MT nD τ sig Unit (Elt F) ℕ UU ℕ

/-- The pipeline's component, -/
abbrev EP : Emb (UR sig nD τ) (MT nD τ sig Unit (Elt F) ℕ UU ℕ) := embL
/-- and the kernel's own. -/
abbrev ER : Emb UX (MT nD τ sig Unit (Elt F) ℕ UU ℕ) := embR

/-! ## The mesh as a ring -/

/-- The device `k + 1` places after `c`. -/
def peer (c : Dev nD) (k : Fin 15) : Dev nD := ⟨(c.val + (k.val + 1)) % 16, Nat.mod_lt _ (by decide)⟩
/-- The device `k + 1` places before `c`. -/
def back (c : Dev nD) (k : Fin 15) : Dev nD := ⟨(c.val + (15 - k.val)) % 16, Nat.mod_lt _ (by decide)⟩

/-- Going forward and then back by as much returns, -/
theorem back_peer (c : Dev nD) (k : Fin 15) : back (peer c k) k = c := by
  apply Fin.ext; simp only [back, peer]; have h1 : c.val < 16 := c.isLt; have := k.isLt; omega
/-- and so does going back and then forward. -/
theorem peer_back (c : Dev nD) (k : Fin 15) : peer (back c k) k = c := by
  apply Fin.ext; simp only [back, peer]; have h1 : c.val < 16 := c.isLt; have := k.isLt; omega
/-- No device is its own peer, -/
theorem peer_ne (c : Dev nD) (k : Fin 15) : peer c k ≠ c := by
  intro h; have := congrArg Fin.val h; simp only [peer] at this
  have h1 : c.val < 16 := c.isLt; have := k.isLt; omega
/-- in either direction. -/
theorem back_ne (c : Dev nD) (k : Fin 15) : back c k ≠ c := by
  intro h; have := congrArg Fin.val h; simp only [back] at this
  have h1 : c.val < 16 := c.isLt; have := k.isLt; omega
/-- Different steps reach different peers. -/
theorem peer_inj {c : Dev nD} {k j : Fin 15} (h : peer c k = peer c j) : k = j := by
  have := congrArg Fin.val h; simp only [peer] at this
  have h1 : c.val < 16 := c.isLt; have := k.isLt; have := j.isLt; apply Fin.ext; omega
/-- The steps backward are the steps forward in the opposite order. -/
theorem back_rev (c : Dev nD) (k : Fin 15) : back c k.rev = peer c k := by
  apply Fin.ext; simp only [back, peer, Fin.val_rev]; have h1 : c.val < 16 := c.isLt; have := k.isLt; omega
/-- Every device other than `c` is one of its peers. -/
theorem exists_peer {c d : Dev nD} (h : d ≠ c) : ∃ k, peer c k = d := by
  have h1 : c.val < 16 := c.isLt; have h2 : d.val < 16 := d.isLt
  have h3 : d.val ≠ c.val := fun e => h (Fin.ext e)
  refine ⟨⟨(d.val + 15 - c.val) % 16, by omega⟩, Fin.ext ?_⟩
  simp only [peer]; omega

/-- Moving `k + 1` places round the ring. -/
def shift (k : Fin 15) : Dev nD ≃ Dev nD := ⟨fun c => peer c k, fun c => back c k, fun c => back_peer c k, fun c => peer_back c k⟩

/-! ## Buffers and their rows -/

/-- The staged activations, whole; -/
abbrev xM : Memref sig .tc .vmem S512x256 .bf16 := Memref.whole cc0_stg0_0
/-- the staged route; -/
abbrev rM : Memref sig .tc .vmem S512x1 .i32 := Memref.whole cc0_stg1_0
/-- the staged matrices; -/
abbrev wM : Memref sig .tc .vmem S4x256x512 .bf16 := Memref.whole cc0_stg2_0
/-- the staged result; -/
abbrev oM : Memref sig .tc .vmem S512x512 .bf16 := Memref.whole cc0_stg3_0
/-- the table of all devices' rows. -/
abbrev yM : Memref sig .tc .vmem S384x512 .bf16 := Memref.whole cc0_scratch0

/-- Each device's 24 rows lie inside the table. -/
theorem slot_inb (o : Dev nD) : ∀ i, (![24 * o.val, 0] : Fin 2 → Nat) i + S24x512.size i ≤ S384x512.size i := by
  intro i; have h : o.val < 16 := o.isLt
  fin_cases i
  · show 24 * o.val + 24 ≤ 384; omega
  · show 0 + 512 ≤ 512; omega

/-- Device `o`'s 24 rows of the table. -/
abbrev slotM (o : Dev nD) : Memref sig .tc .vmem S24x512 .bf16 :=
  (yM : Memref sig .tc .vmem S384x512 .bf16).slice (Rect.unit (s := S384x512) ![24 * o.val, 0] S24x512.size (slot_inb o)) (fun _ => rfl)

/-- A slice of 24 rows at an offset that comes out as `24 o` is device `o`'s. -/
theorem slice_eq_slot {off : Fin 2 → Nat} (o : Dev nD) (h : off = ![24 * o.val, 0]) (inb : ∀ i, off i + S24x512.size i ≤ S384x512.size i) :
    (yM : Memref sig .tc .vmem S384x512 .bf16).slice (Rect.unit (s := S384x512) off S24x512.size inb) (fun _ => rfl) = slotM o := by
  subst h; rfl

/-- What the table may hold. -/
abbrev YBuf (F : FTy → Type) : Type := (cc0_scratch0 : Ref sig .tc).ty.Contents (Elt F)

/-- The elements of device `o`'s rows. -/
def slotSet (o : Dev nD) : Finset (S384x512.Idx) := (Rect.unit (s := S384x512) ![24 * o.val, 0] S24x512.size (slot_inb o)).set

/-- The rows' view covers exactly those elements. -/
theorem slot_set (o : Dev nD) : (slotM o).view.set = slotSet o := View.set_slice_whole _ _

/-- An element is device `o`'s when its row's number divided by 24 is `o`. -/
theorem mem_slotSet {o : Dev nD} {i : S384x512.Idx} : i ∈ slotSet o ↔ (i 0).val / 24 = o.val := by
  unfold slotSet
  rw [Rect.mem_set_unit]
  have h0 : (i 0).val < 384 := (i 0).isLt
  have h1 : (i 1).val < 512 := (i 1).isLt
  constructor
  · intro h
    have := h 0
    change 24 * o.val ≤ (i 0).val ∧ (i 0).val < 24 * o.val + 24 at this
    omega
  · intro h a
    fin_cases a
    · show 24 * o.val ≤ (i 0).val ∧ (i 0).val < 24 * o.val + 24; omega
    · show 0 ≤ (i 1).val ∧ (i 1).val < 0 + 512; omega

/-- Two devices' rows share no element, -/
theorem slot_disjoint {o o' : Dev nD} (h : o ≠ o') : Disjoint (slotSet o) (slotSet o') := by
  rw [Finset.disjoint_left]; intro i hi hi'
  rw [mem_slotSet] at hi hi'
  exact h (Fin.ext (hi.symm.trans hi'))

/-- and the sixteen devices' rows are the whole table. -/
theorem slot_cover : (Finset.univ : Finset S384x512.Idx) = Finset.univ.biUnion slotSet := by
  refine (Finset.eq_univ_of_forall fun i => ?_).symm
  rw [Finset.mem_biUnion]
  have h0 : (i 0).val < 384 := (i 0).isLt
  exact ⟨⟨(i 0).val / 24, by change (i 0).val / 24 < 16; omega⟩, Finset.mem_univ _, mem_slotSet.mpr rfl⟩

/-- Device `o`'s rows of device `c`'s table, held at a share and contents. -/
def slotPts (c o : Dev nD) (q : PosShare TreeShare) (f : YBuf F) : sProp 𝕄 :=
  ((c : Thread nD τ).loc cc0_scratch0) ↦[slotSet o]{q} f

omit [FloatOps F] in
instance slotPts_storable (c o : Dev nD) (q) (f : YBuf F) : BI.Storable (upEmb : UEmb _ 𝕄) (slotPts (F := F) c o q f) := by
  unfold slotPts; infer_instance

/-- The whole table is its sixteen devices' rows. -/
theorem table_split (c : Dev nD) (q : PosShare TreeShare) (f : YBuf F) :
    (((c : Thread nD τ).loc cc0_scratch0) ↦{q} f : sProp 𝕄) = bigSep Finset.univ fun o => slotPts c o q f := by
  show (((c : Thread nD τ).loc cc0_scratch0) ↦[(Finset.univ : Finset S384x512.Idx)]{q} f : sProp 𝕄) = _
  rw [slot_cover]
  exact pointsTo_biUnion (ℓ := (c : Thread nD τ).loc cc0_scratch0) Finset.univ slotSet fun t _ t' _ h => slot_disjoint h

/-- The sixteen shares a device's rows are cut into; -/
abbrev part (i : Fin 16) : PosShare TreeShare := leaf 4 fullShare i

/-- rows held outright are those rows held at each of the sixteen shares. -/
theorem slot_parts (c o : Dev nD) (f : YBuf F) :
    (slotPts c o fullShare f : sProp 𝕄) = bigSep Finset.univ fun i : Fin 16 => slotPts c o (part i) f :=
  pointsTo_leaves (ℓ := (c : Thread nD τ).loc cc0_scratch0) (slotSet o) f 4 fullShare

/-- A device's own entry, and one per peer. -/
theorem over_devices (c : Dev nD) (Φ : Dev nD → sProp 𝕄) :
    bigSep Finset.univ Φ = iprop(Φ c ∗ bigSep Finset.univ fun k : Fin 15 => Φ (peer c k)) := by
  refine (BI.bigSep_erase (Finset.mem_univ c)).trans (congrArg _ ?_)
  rw [show Finset.univ.erase c = (Finset.univ : Finset (Fin 15)).map ⟨peer c, fun _ _ h => peer_inj h⟩ from ?_, bigSep_map]
  · rfl
  · ext d
    simp only [Finset.mem_erase, Finset.mem_univ, and_true, Finset.mem_map, true_and, Function.Embedding.coeFn_mk]
    exact ⟨exists_peer, fun ⟨k, hk⟩ => hk ▸ peer_ne c k⟩

/-- The first of sixteen, and the fifteen others. -/
theorem over_parts (Φ : Fin 16 → sProp 𝕄) :
    bigSep Finset.univ Φ = iprop(Φ 0 ∗ bigSep Finset.univ fun k : Fin 15 => Φ k.succ) := by
  refine (BI.bigSep_erase (Finset.mem_univ (0 : Fin 16))).trans (congrArg _ ?_)
  rw [show Finset.univ.erase (0 : Fin 16) = (Finset.univ : Finset (Fin 15)).map ⟨Fin.succ, Fin.succ_injective 15⟩ from by decide, bigSep_map]
  rfl

/-! ## The semaphores and their cells -/

/-- The barrier's semaphore; -/
abbrev barS : Sem sig := (SemArray.scalar (sig.barrier 0 rfl) : Sems sig S_).sem
/-- the send semaphore of transfer `t`; -/
def sendS (t : Fin 16) : DmaSem sig := ⟨4 + t.val, by have := t.isLt; show 4 + t.val < 36; omega⟩
/-- the receive semaphore for device `o`'s rows. -/
def recvS (o : Fin 16) : DmaSem sig := ⟨20 + o.val, by have := o.isLt; show 20 + o.val < 36; omega⟩

/-- The one-element slice at `o` of sixteen consecutive semaphores, its unit axis dropped, is the `o`-th of them. -/
theorem sem_slice {base : Nat} (h : base + S16.numel ≤ 36) {off : Fin 1 → Nat} (o : Fin 16) (hoff : off = ![o.val])
    (inb : ∀ i, off i + S1.size i ≤ S16.size i) :
    ((((SemArray.consecutive base S16 h : SemArray (Fin 36) S16).slice (Rect.unit (s := S16) off S1.size inb)).squeeze S_ squeezes_S1_S_).sem).val = base + o.val := by
  subst hoff
  show base + (S16.rowMajor _).val = _
  congr 1
  rw [Shape.rowMajor_val_one, Rect.emb_apply]
  show o.val + 1 * _ = _
  have hj : ∀ j : S1.Idx, (j 0).val = 0 := fun j => by have : (j 0).val < 1 := (j 0).isLt; omega
  rw [hj]; rfl

/-- A slice of the send semaphores at `t`, -/
theorem send_slice {off : Fin 1 → Nat} (t : Fin 16) (hoff : off = ![t.val]) (inb : ∀ i, off i + S1.size i ≤ S16.size i) :
    ((cc0_scratch1.slice (Rect.unit (s := S16) off S1.size inb)).squeeze S_ squeezes_S1_S_).sem = sendS t :=
  Fin.ext (sem_slice hcc0_scratch1 t hoff inb)
/-- and one of the receive semaphores at `o`. -/
theorem recv_slice {off : Fin 1 → Nat} (o : Fin 16) (hoff : off = ![o.val]) (inb : ∀ i, off i + S1.size i ≤ S16.size i) :
    ((cc0_scratch2.slice (Rect.unit (s := S16) off S1.size inb)).squeeze S_ squeezes_S1_S_).sem = recvS o :=
  Fin.ext (sem_slice hcc0_scratch2 o hoff inb)

/-- What a semaphore is for. -/
inductive Role where
  | bar
  | send (t : Fin 16)
  | recv (o : Fin 16)
  | stage
deriving DecidableEq

/-- A semaphore's role, read off its number. -/
def role : SemLoc sig → Role
  | .reg _ => .bar
  | .dma q => if h : q.val < 4 then .stage else if h' : q.val < 20 then .send ⟨q.val - 4, by omega⟩
      else .recv ⟨q.val - 20, by have h : q.val < 36 := q.isLt; omega⟩

/-- The barrier's role is the barrier; -/
theorem role_bar (s : Sem sig) : role (.reg s) = .bar := rfl
/-- a send semaphore's is a send; -/
theorem role_send (t : Fin 16) : role (.dma (sendS t)) = .send t := by
  have := t.isLt
  unfold role sendS
  dsimp only
  rw [dif_neg (by omega), dif_pos (by omega)]
  congr 1; apply Fin.ext; show 4 + t.val - 4 = t.val; omega
/-- a receive semaphore's is a receive. -/
theorem role_recv (o : Fin 16) : role (.dma (recvS o)) = .recv o := by
  have := o.isLt
  unfold role recvS
  dsimp only
  rw [dif_neg (by omega), dif_neg (by omega)]
  congr 1; apply Fin.ext; show 20 + o.val - 20 = o.val; omega

/-- The semaphores as the proof numbers them: the barrier's, the sends', the receives'. -/
abbrev Slot : Type := Unit ⊕ (Fin 16 ⊕ Fin 16)

/-- The kernel's own semaphores; -/
def osem : Fin 16 ⊕ Fin 16 → SemLoc sig
  | .inl t => .dma (sendS t)
  | .inr o => .dma (recvS o)
/-- all of them, the barrier's too. -/
def csem : Slot → SemLoc sig
  | .inl _ => .reg barS
  | .inr k => osem k

/-- One device's cell. -/
def kcell (ck : Dev nD × Slot) : GSem nD τ sig := ((ck.1 : Thread nD τ), csem ck.2)

/-- The role of a semaphore as the proof numbers it, -/
def roleOf : Slot → Role
  | .inl _ => .bar
  | .inr (.inl t) => .send t
  | .inr (.inr o) => .recv o

/-- which is the role read off the semaphore. -/
theorem role_csem (k : Slot) : role (csem k) = roleOf k := by
  rcases k with _ | t | o
  · rfl
  · exact role_send t
  · exact role_recv o

/-- Different numbers have different roles, -/
theorem roleOf_inj : Function.Injective roleOf := by
  rintro (_ | t | o) (_ | t' | o') h <;> simp_all [roleOf]

/-- so different numbers are different semaphores. -/
theorem csem_inj : Function.Injective csem := fun k j h => roleOf_inj (by rw [← role_csem, ← role_csem, h])

/-- Different devices' cells, and a device's different cells, differ. -/
theorem kcell_inj : Function.Injective kcell := by
  rintro ⟨c, k⟩ ⟨d, j⟩ h
  have h1 : (c : Thread nD τ) = (d : Thread nD τ) := congrArg Prod.fst h
  have h2 : c = d := congrArg Prod.fst h1
  have h3 : csem k = csem j := congrArg Prod.snd h
  rw [h2, csem_inj h3]

/-- Device `c`'s barrier cell; -/
abbrev barCell (c : Dev nD) : GSem nD τ sig := ((c : Thread nD τ), .reg barS)
/-- its cell for transfer `t`'s source; -/
abbrev sendCell (c : Dev nD) (t : Fin 16) : GSem nD τ sig := ((c : Thread nD τ), .dma (sendS t))
/-- its cell for the landing of device `o`'s rows. -/
abbrev recvCell (c : Dev nD) (o : Fin 16) : GSem nD τ sig := ((c : Thread nD τ), .dma (recvS o))

/-- The units a transfer of 24 rows raises its semaphores by. -/
def N : ℕ := (slotM 0).view.dmaCredit
/-- They are at least one, -/
theorem N_pos : 0 < N := View.dmaCredit_pos _ (by decide)
/-- and the same for every device's rows. -/
theorem N_eq (o : Dev nD) : (slotM o).view.dmaCredit = N := rfl

end Cert.Exchange
-- ==== Proof.Schedule.lean ====
/-
# What is computed, and who hands what to whom

`table m` is the one content that every device's copy of `y` ends with: device `o`'s rows are what `o` computes from its
staged inputs. A barrier unit from one device to another hands over the rows of the sender's copy that the receiver will
write; a landed transfer hands over those rows holding the table; a finished source hands back the share lent to it.
-/
module

public import proofs.«01_k».proof.Proof.Proto

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ)

/-! ## The values -/

/-- The activations staged on device `c`; -/
def xAt (c : Dev nD) : (cc0_stg0_0 : Ref sig .tc).ty.Contents (Elt F) :=
  (win0_0.blk (0 : Fin 1)).view.read (Elt F) (m ((c : Thread nD τ).loc main_arg0))
/-- the tokens' experts; -/
def routeAt (c : Dev nD) : (cc0_stg1_0 : Ref sig .tc).ty.Contents (Elt F) :=
  (win0_1.blk (0 : Fin 1)).view.read (Elt F) (m ((c : Thread nD τ).loc main_arg2))
/-- the device's four expert matrices. -/
def wAt (c : Dev nD) : (cc0_stg2_0 : Ref sig .tc).ty.Contents (Elt F) :=
  (win0_2.blk (0 : Fin 1)).view.read (Elt F) (m ((c : Thread nD τ).loc main_arg3))

/-- Each of the four matrices lies inside the stack. -/
theorem slab_inb (j : Fin 4) : ∀ a, (![j.val, 0, 0] : Fin 3 → Nat) a + S1x256x512.size a ≤ S4x256x512.size a := by
  intro a; have := j.isLt
  fin_cases a
  · show j.val + 1 ≤ 4; omega
  · show 0 + 256 ≤ 256; omega
  · show 0 + 512 ≤ 512; omega

/-- The `j`-th of the device's expert matrices, as a block of one matrix. -/
def slab (w : (cc0_stg2_0 : Ref sig .tc).ty.Contents (Elt F)) (j : Fin 4) : Vec F S1x256x512 .bf16 :=
  (wM : Memref sig .tc .vmem S4x256x512 .bf16).view.readAt (Elt F) (Rect.unit (s := S4x256x512) ![j.val, 0, 0] S1x256x512.size (slab_inb j)).toLoadRect w

/-- The device's number as the program computes it. -/
def devWord (c : Dev nD) : BitVec 32 := Scalar.remsi (Scalar.divsi (Dev.word c) 1#32) 16#32

/-- The 24 rows a device computes from its activations, its tokens' experts and its expert matrices. -/
def rowsOf (c : Dev nD) (x : Vec F S512x256 .bf16) (route : Vec F S512x1 .i32) (w : (cc0_stg2_0 : Ref sig .tc).ty.Contents (Elt F)) :
    FVec F S24x512 .bf16 :=
  k0_pay8 (k0_pay3 (k0_pay2 route)) (k0_pay4 (devWord c) (k0_pay1 route)) k0_pay5 k0_pay6 k0_pay7 x (slab w 0) (slab w 1) (slab w 2) (slab w 3)

/-- The rows device `c` computes. -/
def rowsAt (c : Dev nD) : FVec F S24x512 .bf16 := rowsOf c (xAt m c) (routeAt m c) (wAt m c)

/-- The whole table: sixteen devices' rows. -/
def table : YBuf F := fun i =>
  rowsAt m ⟨(i 0).val / 24, by have h : (i 0).val < 384 := (i 0).isLt; show (i 0).val / 24 < 16; omega⟩
    (ix2 (⟨(i 0).val % 24, Nat.mod_lt _ (by decide)⟩ : Fin 24) (⟨(i 1).val, (i 1).isLt⟩ : Fin 512))

/-- Which rows of the table a token takes: the 0/1 matrix the device multiplies the table by. -/
def pick (route : Vec F S512x1 .i32) : FVec F S512x384 .bf16 :=
  k0_pay11 (F := F) (k0_pay1 route) (k0_pay3 (k0_pay2 (F := F) route)) (iota .tc S512x384 32 [1] iota_S512x384_d1_w32) k0_pay9 k0_pay10

/-- The result on device `c`. -/
def outAt (c : Dev nD) : (cc0_stg3_0 : Ref sig .tc).ty.Contents (Elt F) := k0_pay12 (pick (routeAt m c)) (table m)

/-- Writing a device's rows over anything leaves, on those rows, the table. -/
theorem write_rows (o : Dev nD) (f : YBuf F) : ∀ i ∈ slotSet o,
    (slotM o).view.write (Elt F) f (rowsAt m o) Finset.univ i = table m i := by
  intro i hi
  have hi' := mem_slotSet.mp hi
  rw [← slot_set] at hi
  obtain ⟨x, rfl⟩ : ∃ x, (slotM o).view.emb x = i := by
    have := hi; unfold View.set at this; rw [Finset.mem_map] at this
    obtain ⟨x, -, h⟩ := this; exact ⟨x, h⟩
  rw [View.write_emb_of_mem _ _ (Finset.mem_univ x)]
  show rowsAt m o x = _
  have e0 : ((slotM o).view.emb x 0).val = 24 * o.val + (x 0).val := by
    show (24 * o.val + 1 * (x 0).val) = _; omega
  have e1 : ((slotM o).view.emb x 1).val = (x 1).val := by
    show (0 + 1 * (x 1).val) = _; omega
  have h0 : (x 0).val < 24 := (x 0).isLt
  unfold table
  have ho : (⟨((slotM o).view.emb x 0).val / 24, by rw [hi']; exact o.isLt⟩ : Dev nD) = o := Fin.ext hi'
  rw [ho]
  congr 1
  refine (eq_ix2 x).trans ?_
  congr 1
  · apply Fin.ext; show (x 0).val = ((slotM o).view.emb x 0).val % 24; rw [e0]; omega
  · apply Fin.ext; show (x 1).val = ((slotM o).view.emb x 1).val; rw [e1]

/-- Landing a device's rows of the table over anything leaves, on those rows, the table. -/
theorem write_landed (o : Dev nD) (f : YBuf F) : ∀ i ∈ slotSet o,
    (slotM o).view.write (Elt F) f ((slotM o).view.read (Elt F) (table m)) Finset.univ i = table m i := by
  intro i hi
  rw [View.write_read_eq_piecewise]
  refine Finset.piecewise_eq_of_mem _ _ _ ?_
  rw [← slot_set] at hi
  exact hi

/-! ## The schedule -/

/-- What a unit of device `c`'s barrier semaphore hands over when the device `back c k` pays it: that device's copy of
    `c`'s rows. -/
def barPay (c : Dev nD) (k : Fin 15) : sProp 𝕄 :=
  iprop(∃ f, slotPts (back c k) c fullShare f)

/-- The payload of a cell's duty, by the cell's role. -/
def payOf (c : Dev nD) (k : Fin 15) : Role → sProp 𝕄
  | .bar => barPay c k
  | .send t => slotPts c c (part t) (table m)
  | .recv o => slotPts c o fullShare (table m)
  | .stage => iprop(emp)

/-- The duties of a cell in round 0, by its role: fifteen units at a barrier, one transfer at a send or receive cell
    that is used. -/
def dutiesOf (c : Dev nD) : Role → Finset (Fin 15)
  | .bar => Finset.univ
  | .send t => if t = 0 then ∅ else {0}
  | .recv o => if o = c then ∅ else {0}
  | .stage => ∅

/-- A barrier unit is one; a transfer's are `N`. -/
def unitsOf : Role → ℕ
  | .bar => 1
  | _ => N

/-- Every duty has at least one unit. -/
theorem unitsOf_pos : ∀ r, 0 < unitsOf r
  | .bar => Nat.one_pos
  | .send _ => N_pos
  | .recv _ => N_pos
  | .stage => N_pos

/-- The schedule of every cell: one round, its duties, their units and payloads by the cell's role. -/
def rd : Rounds.Schedule (GSem nD τ sig) (Fin 15) 𝕄 where
  duties g r := if r = 0 ∧ g.1.2 = .tc then dutiesOf g.1.1 (role g.2) else ∅
  unitless _ := False
  amount g _ _ := unitsOf (role g.2)
  payload g _ k := payOf m g.1.1 k (role g.2)
  amount_pos g _ _ _ := unitsOf_pos _

instance rd_storable (g : GSem nD τ sig) (r : ℕ) (k : Fin 15) : BI.Storable (upEmb : UEmb _ 𝕄) ((rd (F := F) m).payload g r k) := by
  show BI.Storable upEmb (payOf m g.1.1 k (role g.2))
  cases role g.2 <;> unfold payOf <;> try unfold barPay
  all_goals infer_instance

section Sched
variable (c : Dev nD)

/-- A barrier cell has a duty for each of the fifteen steps; -/
theorem duties_bar : (rd (F := F) m).duties (barCell c) 0 = Finset.univ := by
  dsimp only [rd]; exact if_pos ⟨rfl, rfl⟩
/-- a send cell in use has one duty; -/
theorem duties_send (k : Fin 15) : (rd (F := F) m).duties (sendCell c k.succ) 0 = {0} := by
  dsimp only [rd]; refine (if_pos ⟨rfl, rfl⟩).trans (?_ : dutiesOf c (role (.dma (sendS k.succ))) = _)
  rw [role_send]; unfold dutiesOf; exact if_neg (Fin.succ_ne_zero k)
/-- so has the receive cell for another device's rows. -/
theorem duties_recv {o : Dev nD} (h : o ≠ c) : (rd (F := F) m).duties (recvCell c o) 0 = {0} := by
  dsimp only [rd]; refine (if_pos ⟨rfl, rfl⟩).trans (?_ : dutiesOf c (role (.dma (recvS o))) = _)
  rw [role_recv]; unfold dutiesOf; exact if_neg h
/-- The send cell of no step has no duty, -/
theorem duties_send_zero : ∀ r, 0 ≤ r → (rd (F := F) m).duties (sendCell c 0) r = ∅ := by
  intro r _
  have h : dutiesOf c (role (.dma (sendS 0))) = ∅ := by rw [role_send]; unfold dutiesOf; exact if_pos rfl
  dsimp only [rd]
  split
  · exact h
  · rfl
/-- nor has the receive cell for the device's own rows. -/
theorem duties_recv_self : ∀ r, 0 ≤ r → (rd (F := F) m).duties (recvCell c c) r = ∅ := by
  intro r _
  have h : dutiesOf c (role (.dma (recvS c))) = ∅ := by rw [role_recv]; unfold dutiesOf; exact if_pos rfl
  dsimp only [rd]
  split
  · exact h
  · rfl
/-- No cell has a duty after round 0. -/
theorem duties_later (g : GSem nD τ sig) : ∀ r, 1 ≤ r → (rd (F := F) m).duties g r = ∅ :=
  fun r hr => if_neg fun h => by omega

/-- A barrier's duty is one unit; -/
theorem amount_bar (k : Fin 15) : (rd (F := F) m).amount (barCell c) 0 k = 1 := rfl
/-- a send's is a transfer's units, -/
theorem amount_send (t : Fin 16) (k : Fin 15) : (rd (F := F) m).amount (sendCell c t) 0 k = N := by
  show unitsOf (role (.dma (sendS t))) = N; rw [role_send]; rfl
/-- and so is a receive's. -/
theorem amount_recv (o : Fin 16) (k : Fin 15) : (rd (F := F) m).amount (recvCell c o) 0 k = N := by
  show unitsOf (role (.dma (recvS o))) = N; rw [role_recv]; rfl

/-- A barrier expects fifteen units in all; -/
theorem expect_bar : (rd (F := F) m).expect (barCell c) 0 = 15 := by
  unfold Schedule.expect Schedule.amountOf
  rw [duties_bar, Finset.sum_congr rfl fun k _ => amount_bar m c k, Finset.sum_const, Finset.card_univ, Fintype.card_fin, smul_eq_mul]
/-- a send cell expects one transfer's units, -/
theorem expect_send (k : Fin 15) : (rd (F := F) m).expect (sendCell c k.succ) 0 = N := by
  unfold Schedule.expect Schedule.amountOf; rw [duties_send, Finset.sum_singleton, amount_send]
/-- and so does a receive cell. -/
theorem expect_recv {o : Dev nD} (h : o ≠ c) : (rd (F := F) m).expect (recvCell c o) 0 = N := by
  unfold Schedule.expect Schedule.amountOf; rw [duties_recv m c h, Finset.sum_singleton, amount_recv]

/-- What a barrier's unit hands over; -/
theorem payload_bar (k : Fin 15) : (rd (F := F) m).payload (barCell c) 0 k = barPay c k := rfl
/-- what a finished send gives back: the share of the device's own rows that was being read; -/
theorem payload_send (t : Fin 16) (k : Fin 15) : (rd (F := F) m).payload (sendCell c t) 0 k = slotPts c c (part t) (table m) := by
  show payOf m c k (role (.dma (sendS t))) = _; rw [role_send]; rfl
/-- what a landing hands over: the sender's rows of the table. -/
theorem payload_recv (o : Fin 16) (k : Fin 15) : (rd (F := F) m).payload (recvCell c o) 0 k = slotPts c o fullShare (table m) := by
  show payOf m c k (role (.dma (recvS o))) = _; rw [role_recv]; rfl

/-- All a barrier cell hands over, by the peer that paid it. -/
theorem rest_bar : bigSep ((rd (F := F) m).duties (barCell c) 0 \ ∅) (fun k => (rd (F := F) m).payload (barCell c) 0 k)
    = bigSep Finset.univ fun k : Fin 15 => iprop(∃ f, slotPts (peer c k) c fullShare f) := by
  rw [Finset.sdiff_empty, duties_bar, bigSep_univ_equiv Fin.revPerm (fun k => (rd (F := F) m).payload (barCell c) 0 k)]
  refine bigSep_congr fun k _ => ?_
  rw [payload_bar]; unfold barPay
  rw [show Fin.revPerm k = k.rev from rfl, back_rev]
/-- All a send cell hands over; -/
theorem rest_send (k : Fin 15) : bigSep ((rd (F := F) m).duties (sendCell c k.succ) 0 \ ∅) (fun j => (rd (F := F) m).payload (sendCell c k.succ) 0 j)
    = slotPts c c (part k.succ) (table m) := by
  rw [Finset.sdiff_empty, duties_send, bigSep_singleton, payload_send]
/-- all a receive cell hands over. -/
theorem rest_recv {o : Dev nD} (h : o ≠ c) : bigSep ((rd (F := F) m).duties (recvCell c o) 0 \ ∅) (fun j => (rd (F := F) m).payload (recvCell c o) 0 j)
    = slotPts c o fullShare (table m) := by
  rw [Finset.sdiff_empty, duties_recv m c h, bigSep_singleton, payload_recv]

end Sched

/-! ## What a device owes, and the levels -/

/-- The steps from `j` on. -/
def rem (j : ℕ) : Finset (Fin 15) := Finset.univ.filter fun k => j ≤ k.val

/-- At first every step is left, -/
theorem rem_zero : rem 0 = Finset.univ := by ext k; simp [rem]
/-- at last none. -/
theorem rem_end : rem 15 = ∅ := by ext k; simp [rem]
/-- Step `k` is the first of those left at `k`, -/
theorem rem_step (k : Fin 15) : rem k.val = insert k (rem (k.val + 1)) := by
  ext j; simp only [rem, Finset.mem_filter, Finset.mem_univ, true_and, Finset.mem_insert, Fin.ext_iff]; omega
/-- and is not left after it. -/
theorem not_mem_rem (k : Fin 15) : k ∉ rem (k.val + 1) := by simp [rem]
/-- The steps before `j`. -/
def done (j : ℕ) : Finset (Fin 15) := Finset.univ.filter fun k => k.val < j
/-- At first no step is done, -/
theorem done_zero : done 0 = ∅ := by ext k; simp [done]
/-- at last every step. -/
theorem done_end : done 15 = Finset.univ := by ext k; simp [done]
/-- Step `k` is done after `k`, -/
theorem done_step (k : Fin 15) : done (k.val + 1) = insert k (done k.val) := by
  ext j; simp only [done, Finset.mem_filter, Finset.mem_univ, true_and, Finset.mem_insert, Fin.ext_iff]; omega
/-- and not before it. -/
theorem not_mem_done (k : Fin 15) : k ∉ done k.val := by simp [done]

/-- What is left at step `k` is step `k` and what is left after it; -/
theorem rem_split (k : Fin 15) (Φ : Fin 15 → sProp 𝕄) : bigSep (rem k.val) Φ = iprop(Φ k ∗ bigSep (rem (k.val + 1)) Φ) := by
  rw [rem_step]; exact BI.bigSep_insert (not_mem_rem k)
/-- what is done after step `k` is step `k` and what was done before it. -/
theorem done_split (k : Fin 15) (Φ : Fin 15 → sProp 𝕄) : bigSep (done (k.val + 1)) Φ = iprop(Φ k ∗ bigSep (done k.val) Φ) := by
  rw [done_step]; exact BI.bigSep_insert (not_mem_done k)

/-- Barrier units still owed from step `j` on; -/
def owedBar (c : Dev nD) (j : ℕ) : CellTallies nD τ sig Unit := ∑ k ∈ rem j, tallyAt (barCell (peer c k)) () 1
/-- landings still owed from step `j` on. -/
def owedRecv (c : Dev nD) (j : ℕ) : CellTallies nD τ sig Unit := ∑ k ∈ rem j, tallyAt (recvCell (peer c k) c) () N
/-- What a device owes at the start. -/
def owed₀ (c : Dev nD) : CellTallies nD τ sig Unit := owedRecv c 0 + owedBar c 0

/-- Paying the barrier unit of step `k` takes it off what is owed; -/
theorem owedBar_step (c : Dev nD) (k : Fin 15) : owedBar c k.val = owedBar c (k.val + 1) + tallyAt (barCell (peer c k)) () 1 := by
  unfold owedBar; rw [rem_step, Finset.sum_insert (not_mem_rem k), add_comm]
/-- so does the landing of step `k`. -/
theorem owedRecv_step (c : Dev nD) (k : Fin 15) : owedRecv c k.val = owedRecv c (k.val + 1) + tallyAt (recvCell (peer c k) c) () N := by
  unfold owedRecv; rw [rem_step, Finset.sum_insert (not_mem_rem k), add_comm]
/-- After the last signal no barrier unit is owed, -/
theorem owedBar_end (c : Dev nD) : owedBar c 15 = 0 := by unfold owedBar; rw [rem_end, Finset.sum_empty]
/-- and after the last transfer no landing. -/
theorem owedRecv_end (c : Dev nD) : owedRecv c 15 = 0 := by unfold owedRecv; rw [rem_end, Finset.sum_empty]

/-- A sum of single-cell tallies is positive only at one of the cells. -/
theorem sum_tally_pos {S : Finset (Fin 15)} {cell : Fin 15 → GSem nD τ sig} {n : ℕ} {g : GSem nD τ sig} {u : Unit}
    (h : 0 < (∑ k ∈ S, tallyAt (cell k) () n : CellTallies nD τ sig Unit) g u) : ∃ k, g = cell k := by
  by_contra hn
  rw [not_exists] at hn
  rw [Finset.sum_apply, Finsupp.finset_sum_apply, Finset.sum_eq_zero] at h
  · exact Nat.lt_irrefl 0 h
  · intro k _; rw [tallyAt_apply, if_neg fun h' => hn k h'.1]

/-- The one ledger index, at every TensorCore's cell. -/
def L (g : GSem nD τ sig) : Finset Unit := if g.1.2 = .tc then {()} else ∅
/-- A barrier cell stands below the receive cells and above the others. -/
def lvOf : Role → ℕ
  | .bar => 1
  | .recv _ => 2
  | _ => 0
/-- The level of a cell, by its role. -/
def lv (g : GSem nD τ sig) (_ : Unit) : ℕ := lvOf (role g.2)

/-- No index elsewhere, -/
theorem L_of_ne (g : GSem nD τ sig) (h : g.1.2 ≠ .tc) : L g = ∅ := if_neg h
/-- one at a TensorCore's cell. -/
theorem L_tc (c : Dev nD) (sm : SemLoc sig) : L ((c : Thread nD τ), sm) = {()} := if_pos rfl
/-- A barrier cell's level is 1, -/
theorem lv_bar (c : Dev nD) : lv (barCell c) () = 1 := rfl
/-- a receive cell's is 2. -/
theorem lv_recv (c : Dev nD) (o : Fin 16) : lv (recvCell c o) () = 2 := by
  show lvOf (role (.dma (recvS o))) = 2; rw [role_recv]; rfl

/-- Landings are owed at receive cells for the device's own rows only; -/
theorem owedRecv_pos {c : Dev nD} {j : ℕ} {g : GSem nD τ sig} {u : Unit} (h : 0 < owedRecv c j g u) : ∃ d, g = recvCell d c :=
  let ⟨k, hk⟩ := sum_tally_pos h; ⟨_, hk⟩
/-- and what is owed at the start is owed at those cells and at barrier cells. -/
theorem owed₀_pos {c : Dev nD} {g : GSem nD τ sig} {u : Unit} (h : 0 < owed₀ c g u) : (∃ d, g = recvCell d c) ∨ ∃ d, g = barCell d := by
  unfold owed₀ at h
  rw [Pi.add_apply, Finsupp.add_apply] at h
  rcases Nat.add_pos_iff_pos_or_pos.mp h with h | h
  · exact Or.inl (owedRecv_pos h)
  · exact Or.inr (let ⟨k, hk⟩ := sum_tally_pos h; ⟨_, hk⟩)

/-- A device may wait for its staging transfers whatever it owes the others. -/
theorem mayWait_stage (c : Dev nD) (q : DmaSem sig) (hq : role (.dma q) = .stage) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨d, rfl⟩ | ⟨d, rfl⟩ <;> exact Finset.mem_singleton_self _)
      (fun p hp => by rw [Finset.mem_singleton.mp hp]; show lvOf (role (.dma q)) ≤ 0; rw [hq]; exact le_refl 0)
      (fun g u hg => by
        rcases owed₀_pos hg with ⟨d, rfl⟩ | ⟨d, rfl⟩
        · rw [lv_recv]; decide
        · rw [lv_bar]; decide)
  · rw [MayWait_zero]; iintro -; iempintro

/-- At its barrier wait a device owes landings only: receive cells, which stand above its barrier cell. -/
theorem mayWait_bar (c : Dev nD) : (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact le_refl 1)
    (fun g u hg => by obtain ⟨d, rfl⟩ := owedRecv_pos hg; rw [lv_recv]; decide)

end Cert.Exchange
-- ==== Proof.Steps.lean ====
/-
# The four kinds of step

A device's run is fifteen signals, a barrier wait, fifteen transfers, fifteen waits for landed rows and fifteen waits for
sent rows. `Signalling`, `Sending`, `Receiving` and `Draining` say what the device holds before step `j` of each phase;
the lemmas here take one step of a phase each.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

/-- What every device knows throughout: every cell's invariant, and that every cell has reached round 0. -/
def records (K : Dev nD × Slot → ℕ) : sProp 𝕄 :=
  iprop((bigSep Finset.univ fun ck : Dev nD × Slot => cellInv ER (rd m) (K ck) (kcell ck))
    ∗ bigSep Finset.univ fun ck : Dev nD × Slot => reached ER (kcell ck) 0)

instance records_persistent (K : Dev nD × Slot → ℕ) : BI.Persistent (records m K) := by unfold records; infer_instance

section
variable (K : Dev nD × Slot → ℕ)

/-- A cell's invariant, -/
theorem inv_at (ck : Dev nD × Slot) : records m K ⊢ cellInv ER (rd m) (K ck) (kcell ck) := by
  unfold records
  iintro ⟨H, -⟩
  have h : (bigSep Finset.univ fun ck : Dev nD × Slot => (cellInv ER (rd m) (K ck) (kcell ck) : sProp 𝕄)) ⊢ cellInv ER (rd m) (K ck) (kcell ck) :=
    bigSep_elim (Finset.mem_univ ck)
  iapply h; iexact H
/-- and its round. -/
theorem reached_at (ck : Dev nD × Slot) : records m K ⊢ reached ER (kcell ck) 0 := by
  unfold records
  iintro ⟨-, H⟩
  have h : (bigSep Finset.univ fun ck : Dev nD × Slot => (reached ER (kcell ck) 0 : sProp 𝕄)) ⊢ reached ER (kcell ck) 0 :=
    bigSep_elim (Finset.mem_univ ck)
  iapply h; iexact H

/-- The invariant of a barrier cell, -/
theorem inv_bar (d : Dev nD) : records m K ⊢ cellInv ER (rd m) (K (d, .inl ())) (barCell d) := inv_at m K (d, .inl ())
/-- of a send cell, -/
theorem inv_send (d : Dev nD) (t : Fin 16) : records m K ⊢ cellInv ER (rd m) (K (d, .inr (.inl t))) (sendCell d t) := inv_at m K (d, .inr (.inl t))
/-- of a receive cell; -/
theorem inv_recv (d : Dev nD) (o : Fin 16) : records m K ⊢ cellInv ER (rd m) (K (d, .inr (.inr o))) (recvCell d o) := inv_at m K (d, .inr (.inr o))
/-- and the round reached at a barrier cell, -/
theorem reached_bar (d : Dev nD) : records m K ⊢ reached ER (barCell d) 0 := reached_at m K (d, .inl ())
/-- at a send cell, -/
theorem reached_send (d : Dev nD) (t : Fin 16) : records m K ⊢ reached ER (sendCell d t) 0 := reached_at m K (d, .inr (.inl t))
/-- at a receive cell. -/
theorem reached_recv (d : Dev nD) (o : Fin 16) : records m K ⊢ reached ER (recvCell d o) 0 := reached_at m K (d, .inr (.inr o))

/-! ## The phases -/

/-- One step's share of the signalling phase: the token of the unit it pays, and the rows it hands over. -/
def sigItem (c : Dev nD) (k : Fin 15) : sProp 𝕄 := iprop(dutyTok ER (barCell (peer c k)) 0 k ∗ ∃ f, slotPts c (peer c k) fullShare f)
/-- Before signal `j`. -/
def Signalling (c : Dev nD) (j : ℕ) : sProp 𝕄 :=
  iprop((∃ W, owes (c : Thread nD τ) (owedRecv c 0 + owedBar c j) W) ∗ bigSep (rem j) (sigItem c))

/-- One step's share of the sending phase: a share of the device's own rows, the peer's copy of them, two tokens. -/
def sendItem (c : Dev nD) (k : Fin 15) : sProp 𝕄 :=
  iprop(slotPts c c (part k.succ) (table m) ∗ (∃ f, slotPts (peer c k) c fullShare f)
    ∗ dutyTok ER (sendCell c k.succ) 0 0 ∗ dutyTok ER (recvCell (peer c k) c) 0 0)
/-- What step `k` leaves: the credit for the wait on its source. -/
def sentItem (c : Dev nD) (k : Fin 15) : sProp 𝕄 := cred (tallyAt (sendCell c k.succ) () N)
/-- Before transfer `j`. -/
def Sending (c : Dev nD) (j : ℕ) : sProp 𝕄 :=
  iprop((∃ W, owes (c : Thread nD τ) (owedRecv c j) W) ∗ bigSep (rem j) (sendItem m c) ∗ bigSep (done j) (sentItem c))

/-- Step `k`'s credit and position at the receive cell, -/
def recvItem (c : Dev nD) (k : Fin 15) : sProp 𝕄 :=
  iprop(cred (tallyAt (recvCell c (peer c k)) () N) ∗ atPos ER (recvCell c (peer c k)) 0 ∅ 0)
/-- and what its wait leaves: the cell's counter at zero and the peer's rows. -/
def recvdItem (c : Dev nD) (k : Fin 15) : sProp 𝕄 :=
  iprop(semVal (recvCell c (peer c k)) 0 ∗ slotPts c (peer c k) fullShare (table m))
/-- Before the wait for the `j`-th peer's rows. -/
def Receiving (c : Dev nD) (j : ℕ) : sProp 𝕄 :=
  iprop((∃ W, owes (c : Thread nD τ) 0 W) ∗ bigSep (rem j) (recvItem c) ∗ bigSep (done j) (recvdItem m c))

/-- Step `k`'s credit and position at the send cell, -/
def drainItem (c : Dev nD) (k : Fin 15) : sProp 𝕄 :=
  iprop(sentItem c k ∗ atPos ER (sendCell c k.succ) 0 ∅ 0)
/-- and what its wait leaves: the counter at zero and the share of the device's own rows. -/
def drainedItem (c : Dev nD) (k : Fin 15) : sProp 𝕄 :=
  iprop(semVal (sendCell c k.succ) 0 ∗ slotPts c c (part k.succ) (table m))
/-- Before the wait for the `j`-th transfer's source. -/
def Draining (c : Dev nD) (j : ℕ) : sProp 𝕄 :=
  iprop((∃ W, owes (c : Thread nD τ) 0 W) ∗ bigSep (rem j) (drainItem c) ∗ bigSep (done j) (drainedItem m c))

/-! ## The steps -/

/-- One signal. -/
theorem wp_signal_step (c : Dev nD) (k : Fin 15) {n : Dev nD} (hn : n.val = (peer c k).val) {α : Type} {Q : α → sProp 𝕄}
    {kt : PUnit → Prog (TpuEff nD τ sig (Elt F) Λ₀ .tc) α} :
    iprop(records m K ∗ Signalling c k.val)
      ⊢ iprop((Signalling c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ (semSignalWord n barS 1#32 >>= kt) Q) := by
  obtain rfl : n = peer c k := Fin.ext hn
  unfold Signalling
  rw [rem_split]
  simp only [semSignalWord, Prog.bind_op, Prog.bind_ret]
  unfold sigItem
  iintro ⟨#HR, ⟨%W, HO⟩, ⟨Htok, Hslot⟩, Hrest⟩ Hk
  iapply (Rounds.wp_signal 𝒱₀ ER (rd m) (c : Thread nD τ) none (dst := (peer c k : Thread nD τ)) (κ := K (peer c k, .inl ()))
      (d := k) (by rw [duties_bar]; exact Finset.mem_univ _) ((amount_bar m (peer c k) k).trans (by decide)) ()
      (O₀ := owedRecv c 0 + owedBar c k.val) (owedRecv c 0 + owedBar c (k.val + 1)) (by rw [owedBar_step, ← add_assoc]; rfl)) $$ [HO Htok Hslot]
  · isplitr; · iapply (inv_bar m K (peer c k)); iexact HR
    isplitl [HO]; · iexact HO
    isplitl [Htok]; · iexact Htok
    isplitl [Hslot]
    · rw [payload_bar]; unfold barPay; rw [back_peer]; iexact Hslot
    · iapply (reached_bar m K (peer c k)); iexact HR
  iintro HO
  iapply Hk
  isplitl [HO]; · iexists W; iexact HO
  iexact Hrest

/-- The barrier wait: every peer's copy of this device's rows comes with it. -/
theorem wp_barrier_wait (c : Dev nD) {α : Type} {Q : α → sProp 𝕄}
    {kt : PUnit → Prog (TpuEff nD τ sig (Elt F) Λ₀ .tc) α} :
    iprop(records m K ∗ levAts L lv ∗ Signalling c 15 ∗ cred (tallyAt (barCell c) () 15) ∗ atPos ER (barCell c) 0 ∅ 0)
      ⊢ iprop((((∃ W, owes (c : Thread nD τ) (owedRecv c 0) W) ∗ (bigSep Finset.univ fun k : Fin 15 => iprop(∃ f, slotPts (peer c k) c fullShare f))
              ∗ semVal (barCell c) 0)
            -∗ wp frame (wpE (defs₀ (F := F)) 𝒱₀ (c : Thread nD τ) none) Set.univ (kt ⟨⟩) Q)
          -∗ wp frame (wpE (defs₀ (F := F)) 𝒱₀ (c : Thread nD τ) none) Set.univ (semWaitWord barS 15#32 >>= kt) Q) := by
  unfold Signalling
  rw [owedBar_end, add_zero]
  simp only [semWaitWord, Prog.bind_op, Prog.bind_ret]
  iintro ⟨#HR, #Hlev, ⟨⟨%W, HO⟩, -⟩, Hc, Hat⟩ Hk
  iapply (Rounds.wp_wait_rest_token 𝒱₀ ER (rd m) (c : Thread nD τ) none (κ := K (c, .inl ()))
      (wpE_semWait_eq 𝒱₀ (c : Thread nD τ) none Set.univ) (Set.mem_univ _) () (O := owedRecv c 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ (K (c, .inl ()))) (fun h => h) (R := 0 + 1) (duties_later m (barCell c))) $$ [Hat] with Hz
  · isplitr; · iapply (inv_bar m K c); iexact HR
    iexact Hat
  iapply Hk
  isplitl [HO]; · iexists _; iexact HO
  isplitl [Hp]; · iexact Hp
  iexact Hz

/-- One transfer's rule at this launch's cells: the device's own share of its rows and the peer's copy of them in, a credit
    for the wait on the source out. -/
theorem wp_send_slot (c : Dev nD) (k : Fin 15) (fn : YBuf F) (W : Waits sig Unit)
    {hsc : (slotM c : Memref sig (Dev.tc (peer c k) : Thread nD τ).2.kind .vmem S24x512 .bf16).view.ref.isScScratch = false}
    {hsrc : (slotM c : Memref sig .tc .vmem S24x512 .bf16).view.WordExact} {hdst : (slotM c : Memref sig .tc .vmem S24x512 .bf16).view.WordExact}
    {hsem : DmaTarget.Typed .vmem (.dma (recvS c)) (.remote (Dev.tc (peer c k) : Thread nD τ) (slotM c : Memref sig .tc .vmem S24x512 .bf16) (.dma (sendS k.succ)) hsc)}
    {α : Type} {Q : α → sProp 𝕄}
    {kt : PUnit → Prog (TpuEff nD τ sig (Elt F) Λ₀ .tc) α} :
    iprop(cellInv ER (rd m) (K (c, .inr (.inl k.succ))) (sendCell c k.succ) ∗ cellInv ER (rd m) (K (peer c k, .inr (.inr c))) (recvCell (peer c k) c)
        ∗ slotPts c c (part k.succ) (table m) ∗ slotPts (peer c k) c fullShare fn
        ∗ owes (c : Thread nD τ) (owedRecv c k.val) W
        ∗ dutyTok ER (sendCell c k.succ) 0 0 ∗ reached ER (sendCell c k.succ) 0
        ∗ dutyTok ER (recvCell (peer c k) c) 0 0 ∗ reached ER (recvCell (peer c k) c) 0)
      ⊢ iprop(((cred (tallyAt (sendCell c k.succ) () N) ∗ owes (c : Thread nD τ) (owedRecv c (k.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slotM c) (.remote (Dev.tc (peer c k) : Thread nD τ) (slotM c) (.dma (sendS k.succ)) hsc) (.dma (recvS c)) hsrc hdst hsem) kt) Q) := by
  have hd₁ : (0 : Fin 15) ∈ (rd m).duties (sendCell c k.succ) 0 := by rw [duties_send]; exact Finset.mem_singleton_self _
  have hd₂ : (0 : Fin 15) ∈ (rd m).duties (recvCell (peer c k) c) 0 := by
    rw [duties_recv m (peer c k) (peer_ne c k).symm]; exact Finset.mem_singleton_self _
  have hN : (slotM c).view.amount (.dma (recvS c)) = N := rfl
  have hp₁ : (((slotM c).view.loc (c : Thread nD τ)) ↦[(slotM c).view.set]{part k.succ} (table m) : sProp 𝕄)
      ⊢ (rd m).payload (sendCell c k.succ) 0 0 := by
    rw [payload_send, slot_set]; exact BI.Entails.refl _
  have hp₂ : (((slotM c).view.loc (peer c k : Thread nD τ)) ↦[(slotM c).view.set]{fullShare}
        ((slotM c).view.write (Elt F) fn ((slotM c).view.read (Elt F) (table m)) Finset.univ) : sProp 𝕄)
      ⊢ (rd m).payload (recvCell (peer c k) c) 0 0 := by
    rw [payload_recv, slot_set]; exact Entails.of_eq (pointsTo_congr (write_landed m c fn))
  refine BI.Entails.trans ?_ (Rounds.wp_send_pointsTo (defs := defs₀ (F := F)) 𝒱₀ ER (rd m) (c : Thread nD τ) none (κ₁ := K (c, .inr (.inl k.succ))) (κ₂ := K (peer c k, .inr (.inr c)))
    (c' := (peer c k : Thread nD τ)) (hsc := hsc) (hsrc := hsrc) (hdst := hdst) (hsem := hsem) (k := kt) (Q := Q) (Es := Set.univ)
    hd₁ hd₂ () () N hN (amount_send m c k.succ 0) (amount_recv m (peer c k) c 0) (owedRecv c (k.val + 1)) (owedRecv_step c k) (W := W) hp₁ hp₂)
  rw [slot_set]; exact BI.Entails.refl _

/-- One transfer to a peer. -/
theorem wp_send_step (c : Dev nD) (k : Fin 15) {n : Dev nD} (hn : n.val = (peer c k).val)
    {v v' : Memref sig .tc .vmem S24x512 .bf16} (hv : v = slotM c) (hv' : v' = slotM c)
    {sS sR : DmaSem sig} (hS : sS = sendS k.succ) (hR : sR = recvS c)
    {hsc : (v' : Memref sig (Dev.tc n : Thread nD τ).2.kind .vmem S24x512 .bf16).view.ref.isScScratch = false}
    {hsrc : v.view.WordExact} {hdst : v'.view.WordExact}
    {hsem : DmaTarget.Typed .vmem (.dma sR) (.remote (Dev.tc n : Thread nD τ) v' (.dma sS) hsc)}
    {α : Type} {Q : α → sProp 𝕄}
    {kt : PUnit → Prog (TpuEff nD τ sig (Elt F) Λ₀ .tc) α} :
    iprop(records m K ∗ Sending m c k.val)
      ⊢ iprop((Sending m c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (Prog.lift (.enqueueDma v (.remote (Dev.tc n : Thread nD τ) v' (.dma sS) hsc) (.dma sR) hsrc hdst hsem) >>= kt) Q) := by
  obtain rfl : n = peer c k := Fin.ext hn
  subst hv hv' hS hR
  unfold Sending
  rw [rem_split, done_split, Prog.bind_lift]
  unfold sendItem sentItem
  iintro ⟨#HR, ⟨%W, HO⟩, ⟨⟨Hsrc, ⟨%fn, Hdst⟩, HtS, HtR⟩, Hrest⟩, Hdone⟩ Hk
  iapply (wp_send_slot m K c k fn W) $$ [HO Hsrc Hdst HtS HtR]
  · isplitr; · iapply (inv_send m K c k.succ); iexact HR
    isplitr; · iapply (inv_recv m K (peer c k) c); iexact HR
    isplitl [Hsrc]; · iexact Hsrc
    isplitl [Hdst]; · iexact Hdst
    isplitl [HO]; · iexact HO
    isplitl [HtS]; · iexact HtS
    isplitr; · iapply (reached_send m K c k.succ); iexact HR
    isplitl [HtR]; · iexact HtR
    iapply (reached_recv m K (peer c k) c); iexact HR
  iintro ⟨Hc, HO⟩
  iapply Hk
  isplitl [HO]; · iexists W; iexact HO
  isplitl [Hrest]; · iexact Hrest
  isplitl [Hc] <;> iassumption

/-- One wait for a peer's rows. -/
theorem wp_recv_step (c : Dev nD) (k : Fin 15) {v v' : Memref sig .tc .vmem S24x512 .bf16} {s : DmaSem sig}
    (hs : s = recvS (peer c k)) (hv : v = slotM (peer c k)) (hv' : v' = slotM (peer c k)) {h : v.view.WordExact} {h' : v'.view.WordExact}
    {α : Type} {Q : α → sProp 𝕄}
    {kt : PUnit → Prog (TpuEff nD τ sig (Elt F) Λ₀ .tc) α} :
    iprop(records m K ∗ Receiving m c k.val)
      ⊢ iprop((Receiving m c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ (Prog.lift (.waitDma2 s v v' h h') >>= kt) Q) := by
  subst hv hv' hs
  unfold Receiving
  rw [rem_split, done_split, Prog.bind_lift]
  unfold recvItem recvdItem
  iintro ⟨#HR, ⟨%W, HO⟩, ⟨⟨Hc, Hat⟩, Hrest⟩, Hdone⟩ Hk
  iapply (Rounds.wp_wait_rest_token 𝒱₀ ER (rd m) (c : Thread nD τ) none (κ := K (c, .inr (.inr (peer c k))))
      (wpE_waitDma2_eq 𝒱₀ (c : Thread nD τ) none Set.univ) (Set.mem_univ _) () (O := 0) (W := W) (R := 0) (m := 0) (T := ∅)
      (by rw [Nat.zero_add, expect_recv m c (peer_ne c k), N_eq])) $$ [Hc HO Hat]
  · isplitr; · iapply (inv_recv m K c (peer c k)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c (peer_ne c k))) $$ Hpay
  imod (Rounds.cell_close ER (rd m) (Set.mem_univ (K (c, .inr (.inr (peer c k))))) (fun h => h) (R := 0 + 1) (duties_later m (recvCell c (peer c k)))) $$ [Hat] with Hz
  · isplitr; · iapply (inv_recv m K c (peer c k)); iexact HR
    iexact Hat
  iapply Hk
  isplitl [HO]; · iexists _; iexact HO
  isplitl [Hrest]; · iexact Hrest
  isplitl [Hp Hz]
  · isplitl [Hz] <;> iassumption
  iexact Hdone

/-- One wait for a transfer's source. -/
theorem wp_drain_step (c : Dev nD) (k : Fin 15) {v v' : Memref sig .tc .vmem S24x512 .bf16} {s : DmaSem sig}
    (hs : s = sendS k.succ) (hv : v = slotM c) (hv' : v' = slotM c) {h : v.view.WordExact} {h' : v'.view.WordExact}
    {α : Type} {Q : α → sProp 𝕄}
    {kt : PUnit → Prog (TpuEff nD τ sig (Elt F) Λ₀ .tc) α} :
    iprop(records m K ∗ Draining m c k.val)
      ⊢ iprop((Draining m c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ (Prog.lift (.waitDma2 s v v' h h') >>= kt) Q) := by
  subst hv hv' hs
  unfold Draining
  rw [rem_split, done_split, Prog.bind_lift]
  unfold drainItem drainedItem sentItem
  iintro ⟨#HR, ⟨%W, HO⟩, ⟨⟨Hc, Hat⟩, Hrest⟩, Hdone⟩ Hk
  iapply (Rounds.wp_wait_rest_token 𝒱₀ ER (rd m) (c : Thread nD τ) none (κ := K (c, .inr (.inl k.succ)))
      (wpE_waitDma2_eq 𝒱₀ (c : Thread nD τ) none Set.univ) (Set.mem_univ _) () (O := 0) (W := W) (R := 0) (m := 0) (T := ∅)
      (by rw [Nat.zero_add, expect_send m c k, N_eq])) $$ [Hc HO Hat]
  · isplitr; · iapply (inv_send m K c k.succ); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (rd m) (Set.mem_univ (K (c, .inr (.inl k.succ)))) (fun h => h) (R := 0 + 1) (duties_later m (sendCell c k.succ))) $$ [Hat] with Hz
  · isplitr; · iapply (inv_send m K c k.succ); iexact HR
    iexact Hat
  iapply Hk
  isplitl [HO]; · iexists _; iexact HO
  isplitl [Hrest]; · iexact Hrest
  isplitl [Hp Hz]
  · isplitl [Hz] <;> iassumption
  iexact Hdone

/-! ## The steps as the program writes them

Each takes what follows the step as a premise, and carries along whatever else is held. -/

section
/-- A step stated over what it uses, with anything else carried along. -/
theorem carry {A P P' R W W' : sProp 𝕄} [BI.Persistent A] (hs : iprop(A ∗ P) ⊢ iprop((P' -∗ W') -∗ W)) (h : iprop(A ∗ P' ∗ R) ⊢ W') : iprop(A ∗ P ∗ R) ⊢ W := by
  iintro ⟨#HA, HP, HR⟩
  iapply hs $$ [HP]
  · isplitr; · iexact HA
    iexact HP
  iintro HP
  iapply h
  isplitr; · iexact HA
  isplitl [HP] <;> iassumption

end

/-- A signal. -/
theorem signal_at (c : Dev nD) (k : Fin 15) {d : ℕ} {hd : d < nD} (hn : d = (peer c k).val) {α : Type} {Q : α → sProp 𝕄} {R : sProp 𝕄}
    {kt : PUnit → Prog (TpuEff nD τ sig (Elt F) Λ₀ .tc) α}
    (h : iprop(records m K ∗ Signalling c (k.val + 1) ∗ R) ⊢ wp frame (wpE (defs₀ (F := F)) 𝒱₀ (c : Thread nD τ) none) Set.univ (kt ⟨⟩) Q) :
    iprop(records m K ∗ Signalling c k.val ∗ R)
      ⊢ wp frame (wpE (defs₀ (F := F)) 𝒱₀ (c : Thread nD τ) none) Set.univ (semSignalWord (⟨d, hd⟩ : Dev nD) barS 1#32 >>= kt) Q :=
  carry (wp_signal_step m K c k hn) h

/-- A transfer. -/
theorem send_at (c : Dev nD) (k : Fin 15) {d : ℕ} {hd : d < nD} (hn : d = (peer c k).val) {off : Fin 1 → Nat} (hoff : off = ![k.succ.val])
    {i₁ i₂ : ∀ a, k0_off3 c a + S24x512.size a ≤ S384x512.size a} {i₃ : ∀ a, off a + S1.size a ≤ S16.size a} {i₄ : ∀ a, k0_off2 c a + S1.size a ≤ S16.size a}
    {hsc : ((yM : Memref sig .tc .vmem S384x512 .bf16).slice (Rect.unit (s := S384x512) (k0_off3 c) S24x512.size i₁) (fun _ => rfl) :
      Memref sig (Dev.tc (⟨d, hd⟩ : Dev nD) : Thread nD τ).2.kind .vmem S24x512 .bf16).view.ref.isScScratch = false}
    {h₁ : ((yM : Memref sig .tc .vmem S384x512 .bf16).slice (Rect.unit (s := S384x512) (k0_off3 c) S24x512.size i₂) (fun _ => rfl)).view.WordExact}
    {h₂ : ((yM : Memref sig .tc .vmem S384x512 .bf16).slice (Rect.unit (s := S384x512) (k0_off3 c) S24x512.size i₁) (fun _ => rfl)).view.WordExact}
    {h₃ : DmaTarget.Typed .vmem (.dma ((cc0_scratch2.slice (Rect.unit (s := S16) (k0_off2 c) S1.size i₄)).squeeze S_ squeezes_S1_S_).sem)
      (.remote (Dev.tc (⟨d, hd⟩ : Dev nD) : Thread nD τ) ((yM : Memref sig .tc .vmem S384x512 .bf16).slice (Rect.unit (s := S384x512) (k0_off3 c) S24x512.size i₁) (fun _ => rfl))
        (.dma ((cc0_scratch1.slice (Rect.unit (s := S16) off S1.size i₃)).squeeze S_ squeezes_S1_S_).sem) hsc)}
    {α : Type} {Q : α → sProp 𝕄} {R : sProp 𝕄} {kt : PUnit → Prog (TpuEff nD τ sig (Elt F) Λ₀ .tc) α}
    (h : iprop(records m K ∗ Sending m c (k.val + 1) ∗ R) ⊢ wp frame (wpE (defs₀ (F := F)) 𝒱₀ (c : Thread nD τ) none) Set.univ (kt ⟨⟩) Q) :
    iprop(records m K ∗ Sending m c k.val ∗ R)
      ⊢ wp frame (wpE (defs₀ (F := F)) 𝒱₀ (c : Thread nD τ) none) Set.univ
          (Prog.lift (.enqueueDma ((yM : Memref sig .tc .vmem S384x512 .bf16).slice (Rect.unit (s := S384x512) (k0_off3 c) S24x512.size i₂) (fun _ => rfl))
            (.remote (Dev.tc (⟨d, hd⟩ : Dev nD) : Thread nD τ) ((yM : Memref sig .tc .vmem S384x512 .bf16).slice (Rect.unit (s := S384x512) (k0_off3 c) S24x512.size i₁) (fun _ => rfl))
              (.dma ((cc0_scratch1.slice (Rect.unit (s := S16) off S1.size i₃)).squeeze S_ squeezes_S1_S_).sem) hsc)
            (.dma ((cc0_scratch2.slice (Rect.unit (s := S16) (k0_off2 c) S1.size i₄)).squeeze S_ squeezes_S1_S_).sem) h₁ h₂ h₃) >>= kt) Q :=
  carry (wp_send_step m K c k hn (slice_eq_slot c (k0_off3_eq c) _) (slice_eq_slot c (k0_off3_eq c) _) (send_slice k.succ hoff _)
    (recv_slice c (k0_off2_eq c) _)) h

/-- A wait for a peer's rows. -/
theorem recv_at (c : Dev nD) (k : Fin 15) {off : Fin 1 → Nat} {off' : Fin 2 → Nat} (hoff : off = ![(c.val + k.val + 1) % 16])
    (hoff' : off' = ![24 * ((c.val + k.val + 1) % 16), 0])
    {i₁ i₂ : ∀ a, off' a + S24x512.size a ≤ S384x512.size a} {i₃ : ∀ a, off a + S1.size a ≤ S16.size a}
    {h₁ : ((yM : Memref sig .tc .vmem S384x512 .bf16).slice (Rect.unit (s := S384x512) off' S24x512.size i₁) (fun _ => rfl)).view.WordExact}
    {h₂ : ((yM : Memref sig .tc .vmem S384x512 .bf16).slice (Rect.unit (s := S384x512) off' S24x512.size i₂) (fun _ => rfl)).view.WordExact}
    {α : Type} {Q : α → sProp 𝕄} {R : sProp 𝕄} {kt : PUnit → Prog (TpuEff nD τ sig (Elt F) Λ₀ .tc) α}
    (h : iprop(records m K ∗ Receiving m c (k.val + 1) ∗ R) ⊢ wp frame (wpE (defs₀ (F := F)) 𝒱₀ (c : Thread nD τ) none) Set.univ (kt ⟨⟩) Q) :
    iprop(records m K ∗ Receiving m c k.val ∗ R)
      ⊢ wp frame (wpE (defs₀ (F := F)) 𝒱₀ (c : Thread nD τ) none) Set.univ
          (Prog.lift (.waitDma2 ((cc0_scratch2.slice (Rect.unit (s := S16) off S1.size i₃)).squeeze S_ squeezes_S1_S_).sem
            ((yM : Memref sig .tc .vmem S384x512 .bf16).slice (Rect.unit (s := S384x512) off' S24x512.size i₁) (fun _ => rfl))
            ((yM : Memref sig .tc .vmem S384x512 .bf16).slice (Rect.unit (s := S384x512) off' S24x512.size i₂) (fun _ => rfl)) h₁ h₂) >>= kt) Q :=
  carry (wp_recv_step m K c k
    (recv_slice (peer c k) hoff _) (slice_eq_slot (peer c k) hoff' _) (slice_eq_slot (peer c k) hoff' _)) h

/-- A wait for a transfer's source. -/
theorem drain_at (c : Dev nD) (k : Fin 15) {off : Fin 1 → Nat} (hoff : off = ![k.succ.val])
    {i₁ i₂ : ∀ a, k0_off3 c a + S24x512.size a ≤ S384x512.size a} {i₃ : ∀ a, off a + S1.size a ≤ S16.size a}
    {h₁ : ((yM : Memref sig .tc .vmem S384x512 .bf16).slice (Rect.unit (s := S384x512) (k0_off3 c) S24x512.size i₁) (fun _ => rfl)).view.WordExact}
    {h₂ : ((yM : Memref sig .tc .vmem S384x512 .bf16).slice (Rect.unit (s := S384x512) (k0_off3 c) S24x512.size i₂) (fun _ => rfl)).view.WordExact}
    {α : Type} {Q : α → sProp 𝕄} {R : sProp 𝕄} {kt : PUnit → Prog (TpuEff nD τ sig (Elt F) Λ₀ .tc) α}
    (h : iprop(records m K ∗ Draining m c (k.val + 1) ∗ R) ⊢ wp frame (wpE (defs₀ (F := F)) 𝒱₀ (c : Thread nD τ) none) Set.univ (kt ⟨⟩) Q) :
    iprop(records m K ∗ Draining m c k.val ∗ R)
      ⊢ wp frame (wpE (defs₀ (F := F)) 𝒱₀ (c : Thread nD τ) none) Set.univ
          (Prog.lift (.waitDma2 ((cc0_scratch1.slice (Rect.unit (s := S16) off S1.size i₃)).squeeze S_ squeezes_S1_S_).sem
            ((yM : Memref sig .tc .vmem S384x512 .bf16).slice (Rect.unit (s := S384x512) (k0_off3 c) S24x512.size i₁) (fun _ => rfl))
            ((yM : Memref sig .tc .vmem S384x512 .bf16).slice (Rect.unit (s := S384x512) (k0_off3 c) S24x512.size i₂) (fun _ => rfl)) h₁ h₂) >>= kt) Q :=
  carry (wp_drain_step m K c k (send_slice k.succ hoff _) (slice_eq_slot c (k0_off3_eq c) _) (slice_eq_slot c (k0_off3_eq c) _)) h

end

end Cert.Exchange
-- ==== Proof.Parts.lean ====
/-
# The parts of the program

The program is a sequence of parts; each lemma here runs one of them, from the phase it starts in to the phase it ends in.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-- Each of the five buffers is used whole: the activations, -/
theorem wx : (xM : Memref sig .tc .vmem S512x256 .bf16).IsWhole := Memref.isWhole_whole _
/-- the route, -/
theorem wr : (rM : Memref sig .tc .vmem S512x1 .i32).IsWhole := Memref.isWhole_whole _
/-- the matrices, -/
theorem ww : (wM : Memref sig .tc .vmem S4x256x512 .bf16).IsWhole := Memref.isWhole_whole _
/-- the result, -/
theorem wo : (oM : Memref sig .tc .vmem S512x512 .bf16).IsWhole := Memref.isWhole_whole _
/-- the table. -/
theorem wy : (yM : Memref sig .tc .vmem S384x512 .bf16).IsWhole := Memref.isWhole_whole _

/-- The barrier's semaphore as the program names it. -/
abbrev barA : Sems sig S_ := SemArray.scalar (sig.barrier 0 rfl)

/-- A value is returned once what is left holds of it. -/
theorem ret_of {A P R : sProp 𝕄} {α : Type} {Φ : α → sProp 𝕄} {c : Dev nD} {a : α} (h : iprop(P ∗ R) ⊢ Φ a) :
    iprop(A ∗ P ∗ R) ⊢ wp frame (wpE (defs₀ (F := F)) 𝒱₀ (c : Thread nD τ) none) Set.univ (pure a) Φ := by
  iintro ⟨-, H⟩
  rw [Prog.pure_eq_ret, wp_ret]; imodintro
  iapply h; iexact H

/-- Signals 0–4. -/
theorem part1 (c : Dev nD) (Φ) :
    iprop(records m K ∗ Signalling c 0 ∗ (∀ w w', Signalling c 5 -∗ Φ ⟨c, devWord c, barA, w, w'⟩))
      ⊢ wp frame (wpE (defs₀ (F := F)) 𝒱₀ (c : Thread nD τ) none) Set.univ
          (k0_part1 (F := F) xM wx rM wr wM ww oM wo yM wy cc0_scratch1 cc0_scratch2) Φ := by
  rw [k0_part1_eq_skeleton]; unfold k0_part1_skel devWord
  simp only [Prog.bind_lift, wp_deviceId]
  refine signal_at m K c 0 (k0_dev1_eq c) ?_
  refine signal_at m K c 1 (k0_dev2_eq c) ?_
  refine signal_at m K c 2 (k0_dev3_eq c) ?_
  refine signal_at m K c 3 (k0_dev4_eq c) ?_
  refine signal_at m K c 4 (k0_dev5_eq c) ?_
  refine ret_of ?_
  iintro ⟨H, Hk⟩
  iapply Hk; iexact H

/-- Signals 5–10. -/
theorem part2 (c : Dev nD) (a b : BitVec 32) (Φ) :
    iprop(records m K ∗ Signalling c 5 ∗ (∀ w w', Signalling c 11 -∗ Φ ⟨w, w'⟩))
      ⊢ wp frame (wpE (defs₀ (F := F)) 𝒱₀ (c : Thread nD τ) none) Set.univ
          (k0_part2 (F := F) xM wx rM wr wM ww oM wo yM wy cc0_scratch1 cc0_scratch2 c (devWord c) barA a b) Φ := by
  rw [k0_part2_eq_skeleton]; unfold k0_part2_skel
  refine signal_at m K c 5 (k0_dev6_eq c) ?_
  refine signal_at m K c 6 (k0_dev7_eq c) ?_
  refine signal_at m K c 7 (k0_dev8_eq c) ?_
  refine signal_at m K c 8 (k0_dev9_eq c) ?_
  refine signal_at m K c 9 (k0_dev10_eq c) ?_
  refine signal_at m K c 10 (k0_dev11_eq c) ?_
  refine ret_of ?_
  iintro ⟨H, Hk⟩
  iapply Hk; iexact H

/-! ### Loads and stores -/

omit [FloatOps F] in
theorem hz : (![0, 0] : Fin 2 → Nat) = fun _ => 0 := funext fun a => by fin_cases a <;> rfl
omit [FloatOps F] in
/-- A load of a whole buffer reads it: the activations, -/
theorem read_x (inb) (f : (cc0_stg0_0 : Ref sig .tc).ty.Contents (Elt F)) :
    (xM : Memref sig .tc .vmem S512x256 .bf16).view.readAt (Elt F) (Rect.unit (s := S512x256) ![0, 0] S512x256.size inb).toLoadRect f = f :=
  Memref.readAt_unit_zero (Elt F) cc0_stg0_0 hz _ f
omit [FloatOps F] in
/-- the tokens' experts, -/
theorem read_route (inb) (f : (cc0_stg1_0 : Ref sig .tc).ty.Contents (Elt F)) :
    (rM : Memref sig .tc .vmem S512x1 .i32).view.readAt (Elt F) (Rect.unit (s := S512x1) ![0, 0] S512x1.size inb).toLoadRect f = f :=
  Memref.readAt_unit_zero (Elt F) cc0_stg1_0 hz _ f
omit [FloatOps F] in
/-- the table. -/
theorem read_table (inb) (f : YBuf F) :
    (yM : Memref sig .tc .vmem S384x512 .bf16).view.readAt (Elt F) (Rect.unit (s := S384x512) ![0, 0] S384x512.size inb).toLoadRect f = f :=
  Memref.readAt_unit_zero (Elt F) cc0_scratch0 hz _ f
omit [FloatOps F] in
/-- A store over the whole result leaves what was stored. -/
theorem write_out (inb) (f w : (cc0_stg3_0 : Ref sig .tc).ty.Contents (Elt F)) :
    ((oM : Memref sig .tc .vmem S512x512 .bf16).access (Rect.unit (s := S512x512) ![0, 0] S512x512.size inb) : View sig .tc _ _ _).write (Elt F) f w Finset.univ = w :=
  Memref.write_access_unit_zero_univ (Elt F) cc0_stg3_0 hz _ f w

omit [FloatOps F] in
/-- A device's rows of the table, seen by a load or a store at their offset. -/
theorem rows_access {off : Fin 2 → Nat} (o : Dev nD) (h : off = ![24 * o.val, 0]) (inb : ∀ i, off i + S24x512.size i ≤ S384x512.size i) :
    ((yM : Memref sig .tc .vmem S384x512 .bf16).access (Rect.unit (s := S384x512) off S24x512.size inb)).set = slotSet o := by
  subst h; exact slot_set o

/-- The load of the device's own rows, whose value is not used. -/
theorem load_rows (c : Dev nD) {off : Fin 2 → Nat} (hoff : off = ![24 * c.val, 0]) {inb : ∀ i, off i + S24x512.size i ≤ S384x512.size i} {hl} (f : YBuf F)
    {α : Type} {Q : α → sProp 𝕄} {kt : ((Rect.unit (s := S384x512) off S24x512.size inb).toLoadRect.shape.Idx → Elt F .bf16) → Prog (TpuEff nD τ sig (Elt F) Λ₀ .tc) α} :
    slotPts c c fullShare f ⊢ iprop((∀ v, slotPts c c fullShare f -∗ wp frame (wpE (defs₀ (F := F)) 𝒱₀ (c : Thread nD τ) none) Set.univ (kt v) Q)
      -∗ wp frame (wpE (defs₀ (F := F)) 𝒱₀ (c : Thread nD τ) none) Set.univ (Prog.lift (.load yM (Rect.unit (s := S384x512) off S24x512.size inb).toLoadRect hl) >>= kt) Q) := by
  rw [Prog.bind_lift]
  unfold slotPts
  iintro Hs Hk
  iapply (wp_load_rect 𝒱₀ (c : Thread nD τ) none Set.univ (m := yM) (rows_access c hoff inb).le) $$ Hs
  iintro Hs
  iapply Hk; iexact Hs

/-- The store of the device's own rows. -/
theorem store_rows (c : Dev nD) {off : Fin 2 → Nat} (hoff : off = ![24 * c.val, 0]) {inb : ∀ i, off i + S24x512.size i ≤ S384x512.size i} (f : YBuf F)
    {w : FVec F S24x512 .bf16} (hw : w = rowsAt m c) {hx hm}
    {α : Type} {Q : α → sProp 𝕄} {kt : PUnit → Prog (TpuEff nD τ sig (Elt F) Λ₀ .tc) α} :
    slotPts c c fullShare f ⊢ iprop((slotPts c c fullShare (table m) -∗ wp frame (wpE (defs₀ (F := F)) 𝒱₀ (c : Thread nD τ) none) Set.univ (kt ⟨⟩) Q)
      -∗ wp frame (wpE (defs₀ (F := F)) 𝒱₀ (c : Thread nD τ) none) Set.univ (Prog.lift (.store yM (Rect.unit (s := S384x512) off S24x512.size inb) w Finset.univ hx hm) >>= kt) Q) := by
  subst hoff hw
  rw [Prog.bind_lift]
  unfold slotPts
  iintro Hs Hk
  iapply (wp_store 𝒱₀ (c : Thread nD τ) none Set.univ (m := yM) (Mk := Finset.univ) ((View.setOn_univ _).trans (rows_access c rfl inb)).le) $$ Hs
  iintro Hs
  iapply Hk
  iapply (Entails.of_eq (pointsTo_congr (write_rows m c f)))
  iexact Hs

/-- Signals 11–14, then the load of the tokens' experts. -/
theorem part3 (c : Dev nD) (a b : BitVec 32) (Φ) :
    iprop(records m K ∗ Signalling c 11 ∗ ((c : Thread nD τ).loc cc0_stg1_0 ↦{fullShare} routeAt m c)
        ∗ ((Signalling c 15 ∗ ((c : Thread nD τ).loc cc0_stg1_0 ↦{fullShare} routeAt m c)) -∗ Φ ⟨k0_pay1 (routeAt m c), k0_pay2 (routeAt m c)⟩))
      ⊢ wp frame (wpE (defs₀ (F := F)) 𝒱₀ (c : Thread nD τ) none) Set.univ
          (k0_part3 (F := F) xM wx rM wr wM ww oM wo yM wy cc0_scratch1 cc0_scratch2 c (devWord c) barA a b) Φ := by
  rw [k0_part3_eq_skeleton]; unfold k0_part3_skel
  refine signal_at m K c 11 (k0_dev12_eq c) ?_
  refine signal_at m K c 12 (k0_dev13_eq c) ?_
  refine signal_at m K c 13 (k0_dev14_eq c) ?_
  refine signal_at m K c 14 (k0_dev15_eq c) ?_
  rw [Prog.bind_lift]
  iintro ⟨-, HS, Hr, Hk⟩
  iapply (wp_load 𝒱₀ (c : Thread nD τ) none Set.univ (m := rM) (Finset.subset_univ _)) $$ Hr; iintro Hr
  rw [read_route, Prog.pure_eq_ret, wp_ret]; imodintro
  iapply Hk
  isplitl [HS]; · iexact HS
  iexact Hr

/-- The masks, from values already held. -/
theorem part4 (c : Dev nD) (v2 : BitVec 32) (v65 : IVec S512x1 32) (v82 : FVec F S512x1 .f32) (Φ : _ → sProp 𝕄) :
    Φ ⟨k0_pay3 v82, k0_pay4 v2 v65, k0_pay5, k0_pay6, k0_pay7⟩
      ⊢ wp frame (wpE (defs₀ (F := F)) 𝒱₀ (c : Thread nD τ) none) Set.univ
          (k0_part4 (F := F) xM wx rM wr wM ww oM wo yM wy cc0_scratch1 cc0_scratch2 v2 v65 v82) Φ := by
  rw [k0_part4_eq_skeleton]; unfold k0_part4_skel
  rw [Prog.pure_eq_ret, wp_ret]
  iintro H
  imodintro; iexact H

/-- The device's own rows: its activations and expert matrices are read, the rows computed and stored. -/
theorem part5 (c : Dev nD) (Φ) :
    iprop(((c : Thread nD τ).loc cc0_stg0_0 ↦{fullShare} xAt m c) ∗ ((c : Thread nD τ).loc cc0_stg2_0 ↦{fullShare} wAt m c)
        ∗ (∃ f, slotPts c c fullShare f)
        ∗ ((((c : Thread nD τ).loc cc0_stg0_0 ↦{fullShare} xAt m c) ∗ ((c : Thread nD τ).loc cc0_stg2_0 ↦{fullShare} wAt m c)
            ∗ slotPts c c fullShare (table m)) -∗ Φ ⟨⟩))
      ⊢ wp frame (wpE (defs₀ (F := F)) 𝒱₀ (c : Thread nD τ) none) Set.univ
          (k0_part5 (F := F) xM wx rM wr wM ww oM wo yM wy cc0_scratch1 cc0_scratch2 c (devWord c) (k0_pay3 (k0_pay2 (routeAt m c))) (k0_pay4 (devWord c) (k0_pay1 (routeAt m c))) k0_pay5 k0_pay6 k0_pay7) Φ := by
  rw [k0_part5_eq_skeleton]; unfold k0_part5_skel
  iintro ⟨Hx, Hw, ⟨%f, Hs⟩, Hk⟩
  rw [Prog.bind_lift]
  iapply (wp_load 𝒱₀ (c : Thread nD τ) none Set.univ (m := xM) (Finset.subset_univ _)) $$ Hx; iintro Hx
  rw [read_x, Prog.bind_lift]
  iapply (wp_load 𝒱₀ (c : Thread nD τ) none Set.univ (m := wM) (Finset.subset_univ _)) $$ Hw; iintro Hw
  rw [Prog.bind_lift]
  iapply (wp_load 𝒱₀ (c : Thread nD τ) none Set.univ (m := wM) (Finset.subset_univ _)) $$ Hw; iintro Hw
  rw [Prog.bind_lift]
  iapply (wp_load 𝒱₀ (c : Thread nD τ) none Set.univ (m := wM) (Finset.subset_univ _)) $$ Hw; iintro Hw
  rw [Prog.bind_lift]
  iapply (wp_load 𝒱₀ (c : Thread nD τ) none Set.univ (m := wM) (Finset.subset_univ _)) $$ Hw; iintro Hw
  iapply (load_rows c (k0_off1_eq c) f) $$ Hs
  iintro %v Hs
  iapply (store_rows m c (k0_off1_eq c) f rfl) $$ Hs
  iintro Hs
  rw [Prog.pure_eq_ret, wp_ret]; imodintro
  iapply Hk
  isplitl [Hx]; · iexact Hx
  isplitl [Hw] <;> iassumption

/-! ### The transfers -/

/-- The tokens of the transfers a device makes. -/
def sendToks (c : Dev nD) (k : Fin 15) : sProp 𝕄 :=
  iprop(dutyTok ER (sendCell c k.succ) 0 0 ∗ dutyTok ER (recvCell (peer c k) c) 0 0)

/-- With every peer's copy of its rows in hand, a device starts to send. -/
theorem sending_start (c : Dev nD) :
    iprop((∃ W, owes (c : Thread nD τ) (owedRecv c 0) W) ∗ slotPts c c fullShare (table m)
        ∗ (bigSep Finset.univ fun k : Fin 15 => iprop(∃ f, slotPts (peer c k) c fullShare f)) ∗ bigSep Finset.univ (sendToks c))
      ⊢ iprop(Sending m c 0 ∗ slotPts c c (part 0) (table m)) := by
  unfold Sending
  rw [slot_parts, over_parts, rem_zero, done_zero, bigSep_empty]
  have e : (bigSep Finset.univ (sendItem m c) : sProp 𝕄)
      = iprop((bigSep Finset.univ fun k : Fin 15 => slotPts c c (part k.succ) (table m))
        ∗ (bigSep Finset.univ fun k : Fin 15 => iprop(∃ f, slotPts (peer c k) c fullShare f)) ∗ bigSep Finset.univ (sendToks c)) := by
    rw [← bigSep_sep', ← bigSep_sep']; rfl
  rw [e]
  iintro ⟨HO, ⟨H0, Hs⟩, Hp, Ht⟩
  isplitr [H0]
  · isplitl [HO]; · iexact HO
    isplitl [Hs Hp Ht]
    · isplitl [Hs]; · iexact Hs
      isplitl [Hp] <;> iassumption
    · iempintro
  · iexact H0

/-- The barrier wait, after which the device may send. -/
theorem barrier_at (c : Dev nD) {α : Type} {Q : α → sProp 𝕄} {R : sProp 𝕄} {kt : PUnit → Prog (TpuEff nD τ sig (Elt F) Λ₀ .tc) α}
    (h : iprop(records m K ∗ Sending m c 0 ∗ ((slotPts c c (part 0) (table m) ∗ semVal (barCell c) 0) ∗ R)) ⊢ wp frame (wpE (defs₀ (F := F)) 𝒱₀ (c : Thread nD τ) none) Set.univ (kt ⟨⟩) Q) :
    iprop(records m K ∗ Signalling c 15 ∗ ((levAts L lv ∗ cred (tallyAt (barCell c) () 15) ∗ atPos ER (barCell c) 0 ∅ 0
        ∗ slotPts c c fullShare (table m) ∗ bigSep Finset.univ (sendToks c)) ∗ R))
      ⊢ wp frame (wpE (defs₀ (F := F)) 𝒱₀ (c : Thread nD τ) none) Set.univ (semWaitWord barS 15#32 >>= kt) Q := by
  iintro ⟨#HR, HS, ⟨Hlev, Hc, Hat, Hy, Ht⟩, Hk⟩
  iapply (wp_barrier_wait m K c) $$ [Hlev HS Hc Hat]
  · isplitr; · iexact HR
    isplitl [Hlev]; · iexact Hlev
    isplitl [HS]; · iexact HS
    isplitl [Hc] <;> iassumption
  iintro ⟨HO, Hp, Hb⟩
  iapply h
  isplitr; · iexact HR
  ihave H := (sending_start m c) $$ [HO Hy Hp Ht]
  · isplitl [HO]; · iexact HO
    isplitl [Hy]; · iexact Hy
    isplitl [Hp] <;> iassumption
  icases H with ⟨HS, H0⟩
  isplitl [HS]; · iexact HS
  isplitl [H0 Hb]
  · isplitl [H0] <;> iassumption
  iexact Hk

/-- The barrier wait and transfers 0–1. -/
theorem part6 (c : Dev nD) (Φ) :
    iprop(records m K ∗ Signalling c 15 ∗ ((levAts L lv ∗ cred (tallyAt (barCell c) () 15) ∗ atPos ER (barCell c) 0 ∅ 0
        ∗ slotPts c c fullShare (table m) ∗ bigSep Finset.univ (sendToks c))
        ∗ ((Sending m c 2 ∗ slotPts c c (part 0) (table m) ∗ semVal (barCell c) 0) -∗ Φ ⟨⟩)))
      ⊢ wp frame (wpE (defs₀ (F := F)) 𝒱₀ (c : Thread nD τ) none) Set.univ
          (k0_part6 (F := F) xM wx rM wr wM ww oM wo yM wy cc0_scratch1 cc0_scratch2 c (devWord c) barA) Φ := by
  rw [k0_part6_eq_skeleton]; unfold k0_part6_skel
  refine barrier_at m K c ?_
  refine send_at m K c 0 (k0_dev16_eq c) rfl ?_
  refine send_at m K c 1 (k0_dev17_eq c) rfl ?_
  refine ret_of ?_
  iintro ⟨HS, H0, Hk⟩
  iapply Hk
  isplitl [HS]; · iexact HS
  iexact H0

/-- Transfers 2–4. -/
theorem part7 (c : Dev nD)  (Φ) :
    iprop(records m K ∗ Sending m c 2 ∗ (∀ w, Sending m c 5 -∗ Φ w))
      ⊢ wp frame (wpE (defs₀ (F := F)) 𝒱₀ (c : Thread nD τ) none) Set.univ
          (k0_part7 (F := F) xM wx rM wr wM ww oM wo yM wy cc0_scratch1 cc0_scratch2 c (devWord c)) Φ := by
  rw [k0_part7_eq_skeleton]; unfold k0_part7_skel
  refine send_at m K c 2 (k0_dev18_eq c) rfl ?_
  refine send_at m K c 3 (k0_dev19_eq c) rfl ?_
  refine send_at m K c 4 (k0_dev20_eq c) rfl ?_
  refine ret_of ?_
  iintro ⟨H, Hk⟩
  iapply Hk; iexact H

/-- Transfers 5–7. -/
theorem part8 (c : Dev nD) (a : BitVec 32) (Φ) :
    iprop(records m K ∗ Sending m c 5 ∗ (∀ w, Sending m c 8 -∗ Φ w))
      ⊢ wp frame (wpE (defs₀ (F := F)) 𝒱₀ (c : Thread nD τ) none) Set.univ
          (k0_part8 (F := F) xM wx rM wr wM ww oM wo yM wy cc0_scratch1 cc0_scratch2 c (devWord c) a) Φ := by
  rw [k0_part8_eq_skeleton]; unfold k0_part8_skel
  refine send_at m K c 5 (k0_dev21_eq c) rfl ?_
  refine send_at m K c 6 (k0_dev22_eq c) rfl ?_
  refine send_at m K c 7 (k0_dev23_eq c) rfl ?_
  refine ret_of ?_
  iintro ⟨H, Hk⟩
  iapply Hk; iexact H

/-- Transfers 8–9. -/
theorem part9 (c : Dev nD) (a : BitVec 32) (Φ) :
    iprop(records m K ∗ Sending m c 8 ∗ (Sending m c 10 -∗ Φ ⟨⟩))
      ⊢ wp frame (wpE (defs₀ (F := F)) 𝒱₀ (c : Thread nD τ) none) Set.univ
          (k0_part9 (F := F) xM wx rM wr wM ww oM wo yM wy cc0_scratch1 cc0_scratch2 c (devWord c) a) Φ := by
  rw [k0_part9_eq_skeleton]; unfold k0_part9_skel
  refine send_at m K c 8 (k0_dev24_eq c) rfl ?_
  refine send_at m K c 9 (k0_dev25_eq c) rfl ?_
  refine ret_of ?_
  iintro ⟨H, Hk⟩
  iapply Hk; iexact H

/-- Transfers 10–12. -/
theorem part10 (c : Dev nD)  (Φ) :
    iprop(records m K ∗ Sending m c 10 ∗ (∀ w w', Sending m c 13 -∗ Φ ⟨w, w'⟩))
      ⊢ wp frame (wpE (defs₀ (F := F)) 𝒱₀ (c : Thread nD τ) none) Set.univ
          (k0_part10 (F := F) xM wx rM wr wM ww oM wo yM wy cc0_scratch1 cc0_scratch2 c (devWord c)) Φ := by
  rw [k0_part10_eq_skeleton]; unfold k0_part10_skel
  refine send_at m K c 10 (k0_dev26_eq c) rfl ?_
  refine send_at m K c 11 (k0_dev27_eq c) rfl ?_
  refine send_at m K c 12 (k0_dev28_eq c) rfl ?_
  refine ret_of ?_
  iintro ⟨H, Hk⟩
  iapply Hk; iexact H

/-- Transfers 13–14. -/
theorem part11 (c : Dev nD) (a b : BitVec 32) (Φ) :
    iprop(records m K ∗ Sending m c 13 ∗ (Sending m c 15 -∗ Φ ⟨iota .tc S512x384 32 [1] iota_S512x384_d1_w32, k0_pay9, k0_pay10⟩))
      ⊢ wp frame (wpE (defs₀ (F := F)) 𝒱₀ (c : Thread nD τ) none) Set.univ
          (k0_part11 (F := F) xM wx rM wr wM ww oM wo yM wy cc0_scratch1 cc0_scratch2 c (devWord c) a b) Φ := by
  rw [k0_part11_eq_skeleton]; unfold k0_part11_skel
  refine send_at m K c 13 (k0_dev29_eq c) rfl ?_
  refine send_at m K c 14 (k0_dev30_eq c) rfl ?_
  refine ret_of ?_
  iintro ⟨H, Hk⟩
  iapply Hk; iexact H

/-! ### The landed rows -/

/-- The wait for peer 0. -/
theorem part12 (c : Dev nD) (v65 v83 : IVec S512x1 32) (v345 v347 : IVec S512x384 32) (v366 : IVec S512x384 1) (Φ) :
    iprop(records m K ∗ Receiving m c 0 ∗ (∀ w w', Receiving m c 1 -∗ Φ ⟨k0_pay11 (F := F) v65 v83 v345 v347 v366, w, w'⟩))
      ⊢ wp frame (wpE (defs₀ (F := F)) 𝒱₀ (c : Thread nD τ) none) Set.univ
          (k0_part12 (F := F) xM wx rM wr wM ww oM wo yM wy cc0_scratch1 cc0_scratch2 c (devWord c) v65 v83 v345 v347 v366) Φ := by
  rw [k0_part12_eq_skeleton]; unfold k0_part12_skel
  refine recv_at m K c 0 (k0_off4_eq c 0) (k0_off5_eq c 0) ?_
  refine ret_of ?_
  iintro ⟨H, Hk⟩
  iapply Hk; iexact H

/-- The waits for peers 1–3. -/
theorem part13 (c : Dev nD) (a b : BitVec 32) (Φ) :
    iprop(records m K ∗ Receiving m c 1 ∗ (∀ w w', Receiving m c 4 -∗ Φ ⟨w, w'⟩))
      ⊢ wp frame (wpE (defs₀ (F := F)) 𝒱₀ (c : Thread nD τ) none) Set.univ
          (k0_part13 (F := F) xM wx rM wr wM ww oM wo yM wy cc0_scratch1 cc0_scratch2 c (devWord c) a b) Φ := by
  rw [k0_part13_eq_skeleton]; unfold k0_part13_skel
  refine recv_at m K c 1 (k0_off4_eq c 1) (k0_off5_eq c 1) ?_
  refine recv_at m K c 2 (k0_off4_eq c 2) (k0_off5_eq c 2) ?_
  refine recv_at m K c 3 (k0_off4_eq c 3) (k0_off5_eq c 3) ?_
  refine ret_of ?_
  iintro ⟨H, Hk⟩
  iapply Hk; iexact H

/-- The waits for peers 4–6. -/
theorem part14 (c : Dev nD) (a b : BitVec 32) (Φ) :
    iprop(records m K ∗ Receiving m c 4 ∗ (∀ w w', Receiving m c 7 -∗ Φ ⟨w, w'⟩))
      ⊢ wp frame (wpE (defs₀ (F := F)) 𝒱₀ (c : Thread nD τ) none) Set.univ
          (k0_part14 (F := F) xM wx rM wr wM ww oM wo yM wy cc0_scratch1 cc0_scratch2 c (devWord c) a b) Φ := by
  rw [k0_part14_eq_skeleton]; unfold k0_part14_skel
  refine recv_at m K c 4 (k0_off4_eq c 4) (k0_off5_eq c 4) ?_
  refine recv_at m K c 5 (k0_off4_eq c 5) (k0_off5_eq c 5) ?_
  refine recv_at m K c 6 (k0_off4_eq c 6) (k0_off5_eq c 6) ?_
  refine ret_of ?_
  iintro ⟨H, Hk⟩
  iapply Hk; iexact H

/-- The waits for peers 7–9. -/
theorem part15 (c : Dev nD) (a b : BitVec 32) (Φ) :
    iprop(records m K ∗ Receiving m c 7 ∗ (∀ w w', Receiving m c 10 -∗ Φ ⟨w, w'⟩))
      ⊢ wp frame (wpE (defs₀ (F := F)) 𝒱₀ (c : Thread nD τ) none) Set.univ
          (k0_part15 (F := F) xM wx rM wr wM ww oM wo yM wy cc0_scratch1 cc0_scratch2 c (devWord c) a b) Φ := by
  rw [k0_part15_eq_skeleton]; unfold k0_part15_skel
  refine recv_at m K c 7 (k0_off4_eq c 7) (k0_off5_eq c 7) ?_
  refine recv_at m K c 8 (k0_off4_eq c 8) (k0_off5_eq c 8) ?_
  refine recv_at m K c 9 (k0_off4_eq c 9) (k0_off5_eq c 9) ?_
  refine ret_of ?_
  iintro ⟨H, Hk⟩
  iapply Hk; iexact H

/-- The waits for peers 10–12. -/
theorem part16 (c : Dev nD) (a b : BitVec 32) (Φ) :
    iprop(records m K ∗ Receiving m c 10 ∗ (∀ w w', Receiving m c 13 -∗ Φ ⟨w, w'⟩))
      ⊢ wp frame (wpE (defs₀ (F := F)) 𝒱₀ (c : Thread nD τ) none) Set.univ
          (k0_part16 (F := F) xM wx rM wr wM ww oM wo yM wy cc0_scratch1 cc0_scratch2 c (devWord c) a b) Φ := by
  rw [k0_part16_eq_skeleton]; unfold k0_part16_skel
  refine recv_at m K c 10 (k0_off4_eq c 10) (k0_off5_eq c 10) ?_
  refine recv_at m K c 11 (k0_off4_eq c 11) (k0_off5_eq c 11) ?_
  refine recv_at m K c 12 (k0_off4_eq c 12) (k0_off5_eq c 12) ?_
  refine ret_of ?_
  iintro ⟨H, Hk⟩
  iapply Hk; iexact H

omit [FloatOps F] in
/-- Two of four, put together. -/
theorem regroup (A B C D : sProp 𝕄) : (iprop(A ∗ B ∗ C ∗ D) : sProp 𝕄) = iprop((A ∗ C) ∗ B ∗ D) := by
  have h₁ : iprop(A ∗ B ∗ C ∗ D) ⊢ iprop((A ∗ C) ∗ B ∗ D) := by
    iintro ⟨HA, HB, HC, HD⟩
    isplitl [HA HC]
    · isplitl [HA] <;> iassumption
    isplitl [HB] <;> iassumption
  have h₂ : iprop((A ∗ C) ∗ B ∗ D) ⊢ iprop(A ∗ B ∗ C ∗ D) := by
    iintro ⟨⟨HA, HC⟩, HB, HD⟩
    isplitl [HA]; · iexact HA
    isplitl [HB]; · iexact HB
    isplitl [HC] <;> iassumption
  exact BI.Entails.antisymm h₁ h₂

/-- All of a device's table at one share, taken from its own rows and its peers', and what stays of the peers'. -/
theorem table_share (c : Dev nD) :
    (iprop(slotPts c c (part 0) (table m) ∗ bigSep Finset.univ (recvdItem m c)) : sProp 𝕄)
      = iprop((((c : Thread nD τ).loc cc0_scratch0) ↦{part 0} table m)
        ∗ (bigSep Finset.univ fun k : Fin 15 => semVal (recvCell c (peer c k)) 0)
        ∗ bigSep Finset.univ fun k : Fin 15 => bigSep Finset.univ fun i : Fin 15 => slotPts c (peer c k) (part i.succ) (table m)) := by
  have e : (bigSep Finset.univ (recvdItem m c) : sProp 𝕄)
      = iprop((bigSep Finset.univ fun k : Fin 15 => semVal (recvCell c (peer c k)) 0)
        ∗ (bigSep Finset.univ fun k : Fin 15 => slotPts c (peer c k) (part 0) (table m))
        ∗ bigSep Finset.univ fun k : Fin 15 => bigSep Finset.univ fun i : Fin 15 => slotPts c (peer c k) (part i.succ) (table m)) := by
    rw [← bigSep_sep', ← bigSep_sep']
    refine bigSep_congr fun k _ => ?_
    unfold recvdItem
    rw [slot_parts, over_parts]
  rw [e, table_split, over_devices c]
  exact regroup _ _ _ _

/-- Once every peer's rows have landed: the table is read, the result computed and stored. -/
theorem result_at (c : Dev nD) {i₁ i₂ hl₁ hl₂ hx hm} {α : Type} {Q : α → sProp 𝕄} {R : sProp 𝕄} {kt : PUnit → Prog (TpuEff nD τ sig (Elt F) Λ₀ .tc) α}
    (h : iprop(records m K ∗ Draining m c 0 ∗ ((slotPts c c (part 0) (table m) ∗ bigSep Finset.univ (recvdItem m c)
        ∗ ((c : Thread nD τ).loc cc0_stg3_0 ↦{fullShare} outAt m c)) ∗ R)) ⊢ wp frame (wpE (defs₀ (F := F)) 𝒱₀ (c : Thread nD τ) none) Set.univ (kt ⟨⟩) Q) :
    iprop(records m K ∗ Receiving m c 15 ∗ ((slotPts c c (part 0) (table m)
        ∗ (∃ f, (c : Thread nD τ).loc cc0_stg3_0 ↦{fullShare} f) ∗ bigSep Finset.univ (drainItem c)) ∗ R))
      ⊢ wp frame (wpE (defs₀ (F := F)) 𝒱₀ (c : Thread nD τ) none) Set.univ
        (Prog.lift (.load (yM : Memref sig .tc .vmem S384x512 .bf16) (Rect.unit (s := S384x512) ![0, 0] S384x512.size i₁).toLoadRect hl₁) >>= fun y : Vec F S384x512 .bf16 =>
          Prog.lift (.load (oM : Memref sig .tc .vmem S512x512 .bf16) (Rect.unit (s := S512x512) ![0, 0] S512x512.size i₂).toLoadRect hl₂) >>= fun _ =>
          Prog.lift (.store (oM : Memref sig .tc .vmem S512x512 .bf16) (Rect.unit (s := S512x512) ![0, 0] S512x512.size i₂) (k0_pay12 (pick (routeAt m c)) y) Finset.univ hx hm) >>= kt) Q := by
  unfold Receiving
  rw [rem_end, bigSep_empty, done_end, Prog.bind_lift]
  iintro ⟨#HR, ⟨HO, -, Hr⟩, ⟨H0, ⟨%f, Ho⟩, Hd⟩, Hk⟩
  ihave H := (Entails.of_eq (table_share m c)) $$ [H0 Hr]
  · isplitl [H0] <;> iassumption
  icases H with ⟨Hy, Hrest⟩
  iapply (wp_load 𝒱₀ (c : Thread nD τ) none Set.univ (m := yM) (Finset.subset_univ _)) $$ Hy; iintro Hy
  rw [read_table, Prog.bind_lift]
  iapply (wp_load 𝒱₀ (c : Thread nD τ) none Set.univ (m := oM) (Finset.subset_univ _)) $$ Ho; iintro Ho
  rw [Prog.bind_lift]
  iapply (wp_store 𝒱₀ (c : Thread nD τ) none Set.univ (m := oM) (r := Rect.unit (s := S512x512) ![0, 0] S512x512.size i₂) (Mk := Finset.univ) (Finset.subset_univ _)) $$ Ho; iintro Ho
  rw [write_out]
  ihave H := (Entails.of_eq (table_share m c).symm) $$ [Hy Hrest]
  · isplitl [Hy] <;> iassumption
  icases H with ⟨H0, Hr⟩
  iapply h
  isplitr; · iexact HR
  isplitl [HO Hd]
  · unfold Draining
    rw [rem_zero, done_zero, bigSep_empty]
    isplitl [HO]; · iexact HO
    isplitl [Hd]; · iexact Hd
    iempintro
  isplitl [H0 Hr Ho]
  · isplitl [H0]; · iexact H0
    isplitl [Hr]; · iexact Hr
    iexact Ho
  iexact Hk

/-- The last two waits for landed rows, the result, and the wait for the source of transfer 0. -/
theorem part17 (c : Dev nD) (a b : BitVec 32) (Φ) :
    iprop(records m K ∗ Receiving m c 13 ∗ ((slotPts c c (part 0) (table m)
        ∗ (∃ f, (c : Thread nD τ).loc cc0_stg3_0 ↦{fullShare} f) ∗ bigSep Finset.univ (drainItem c))
        ∗ ((Draining m c 1 ∗ slotPts c c (part 0) (table m) ∗ bigSep Finset.univ (recvdItem m c)
            ∗ ((c : Thread nD τ).loc cc0_stg3_0 ↦{fullShare} outAt m c)) -∗ Φ ⟨⟩)))
      ⊢ wp frame (wpE (defs₀ (F := F)) 𝒱₀ (c : Thread nD τ) none) Set.univ
          (k0_part17 (F := F) xM wx rM wr wM ww oM wo yM wy cc0_scratch1 cc0_scratch2 c (devWord c) (pick (routeAt m c)) a b) Φ := by
  rw [k0_part17_eq_skeleton]; unfold k0_part17_skel
  refine recv_at m K c 13 (k0_off4_eq c 13) (k0_off5_eq c 13) ?_
  refine recv_at m K c 14 (k0_off4_eq c 14) (k0_off5_eq c 14) ?_
  refine result_at m K c ?_
  refine drain_at m K c 0 rfl ?_
  refine ret_of ?_
  iintro ⟨HS, H0, Hk⟩
  iapply Hk
  isplitl [HS]; · iexact HS
  iexact H0

/-! ### The sent rows -/

/-- The waits for the sources of transfers 1–7. -/
theorem part18 (c : Dev nD)  (Φ) :
    iprop(records m K ∗ Draining m c 1 ∗ (Draining m c 8 -∗ Φ ⟨⟩))
      ⊢ wp frame (wpE (defs₀ (F := F)) 𝒱₀ (c : Thread nD τ) none) Set.univ
          (k0_part18 (F := F) xM wx rM wr wM ww oM wo yM wy cc0_scratch1 cc0_scratch2 c) Φ := by
  rw [k0_part18_eq_skeleton]; unfold k0_part18_skel
  refine drain_at m K c 1 rfl ?_
  refine drain_at m K c 2 rfl ?_
  refine drain_at m K c 3 rfl ?_
  refine drain_at m K c 4 rfl ?_
  refine drain_at m K c 5 rfl ?_
  refine drain_at m K c 6 rfl ?_
  refine drain_at m K c 7 rfl ?_
  refine ret_of ?_
  iintro ⟨H, Hk⟩
  iapply Hk; iexact H

/-- The waits for the sources of transfers 8–13. -/
theorem part19 (c : Dev nD)  (Φ) :
    iprop(records m K ∗ Draining m c 8 ∗ (Draining m c 14 -∗ Φ ⟨⟩))
      ⊢ wp frame (wpE (defs₀ (F := F)) 𝒱₀ (c : Thread nD τ) none) Set.univ
          (k0_part19 (F := F) xM wx rM wr wM ww oM wo yM wy cc0_scratch1 cc0_scratch2 c) Φ := by
  rw [k0_part19_eq_skeleton]; unfold k0_part19_skel
  refine drain_at m K c 8 rfl ?_
  refine drain_at m K c 9 rfl ?_
  refine drain_at m K c 10 rfl ?_
  refine drain_at m K c 11 rfl ?_
  refine drain_at m K c 12 rfl ?_
  refine drain_at m K c 13 rfl ?_
  refine ret_of ?_
  iintro ⟨H, Hk⟩
  iapply Hk; iexact H

end Cert.Exchange
-- ==== Proof.Body.lean ====
/-
# One device's run

What a device starts from and ends with (`start`, `Φ₀`, `Φ₁`), the data the launch needs (`dats`), and the device's program
run from the one to the other, part after part (`sound_body`).
-/
module

public import proofs.«01_k».proof.Proof.Parts
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## What a device holds -/

/-- The token of the barrier unit a device pays its `k`-th peer. -/
def sigTok (c : Dev nD) (k : Fin 15) : sProp 𝕄 := dutyTok ER (barCell (peer c k)) 0 k

/-- What stays with a device: its positions at its own cells, and the tokens it pays with. -/
def linear (c : Dev nD) : sProp 𝕄 :=
  iprop((bigSep Finset.univ fun k : Slot => atPos ER (kcell (c, k)) 0 ∅ 0) ∗ bigSep Finset.univ (sigTok c) ∗ bigSep Finset.univ (sendToks c))

/-- The credits a device waits with: its barrier's fifteen units, and each peer's landing. -/
def credits (c : Dev nD) : sProp 𝕄 :=
  iprop(cred (tallyAt (barCell c) () 15) ∗ bigSep Finset.univ fun k : Fin 15 => cred (tallyAt (recvCell c (peer c k)) () N))

/-- What a device starts the body with: the records, its own ghost state, its credits, the levels. -/
def start (c : Dev nD) : sProp 𝕄 :=
  iprop((∃ K, records m K ∗ linear c) ∗ credits c ∗ levAts L lv)

/-- Before the run: `start` and the table's buffer, at any contents. -/
def Φ₀ (c : Dev nD) : sProp 𝕄 := iprop(start m c ∗ ∃ f, ((c : Thread nD τ).loc cc0_scratch0) ↦{fullShare} f)
/-- After it: the table's buffer, and every semaphore back at zero. -/
def Φ₁ (c : Dev nD) : sProp 𝕄 :=
  iprop((∃ f, ((c : Thread nD τ).loc cc0_scratch0) ↦{fullShare} f)
    ∗ (bigSep Finset.univ fun k : Fin 16 ⊕ Fin 16 => semVal (kcell (c, .inr k)) 0) ∗ semVal (barCell c) 0)

/-- The launch's data: the arrays at the start, what each staging buffer holds after the body, what the device holds
    before and after it, what it owes. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => routeAt m c
    | ⟨2, _⟩ => wAt m c
    | ⟨3, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

omit [FloatOps F] in
/-- A whole buffer owned at some contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Splitting and putting together -/

/-- One entry per cell of a device: the barrier's, the unused send cell's and the used ones', the unused receive cell's and
    the used ones'. -/
theorem over_slots (c : Dev nD) (Φ : Slot → sProp 𝕄) :
    bigSep Finset.univ Φ = iprop(Φ (.inl ()) ∗ (Φ (.inr (.inl 0)) ∗ bigSep Finset.univ fun k : Fin 15 => Φ (.inr (.inl k.succ)))
      ∗ (Φ (.inr (.inr c)) ∗ bigSep Finset.univ fun k : Fin 15 => Φ (.inr (.inr (peer c k))))) := by
  rw [bigSep_univ_sum, bigSep_univ_sum, over_parts fun t => Φ (.inr (.inl t)), over_devices c fun o => Φ (.inr (.inr o))]
  congr 1
  exact bigSep_singleton

/-- The same over a device's own cells, without the barrier's. -/
theorem over_own (c : Dev nD) (Φ : Fin 16 ⊕ Fin 16 → sProp 𝕄) :
    bigSep Finset.univ Φ = iprop((Φ (.inl 0) ∗ bigSep Finset.univ fun k : Fin 15 => Φ (.inl k.succ))
      ∗ (Φ (.inr c) ∗ bigSep Finset.univ fun k : Fin 15 => Φ (.inr (peer c k)))) := by
  rw [bigSep_univ_sum, over_parts fun t => Φ (.inl t), over_devices c fun o => Φ (.inr o)]
  rfl

/-- The table's buffer, split into the device's own rows and what its signals hand over. -/
theorem signalling_start (c : Dev nD) :
    iprop((∃ W, owes (c : Thread nD τ) (owed₀ c) W) ∗ (∃ f, ((c : Thread nD τ).loc cc0_scratch0) ↦{fullShare} f) ∗ bigSep Finset.univ (sigTok (F := F) c))
      ⊢ iprop(Signalling c 0 ∗ ∃ f, slotPts c c fullShare f) := by
  unfold Signalling owed₀
  rw [rem_zero]
  have e : (bigSep Finset.univ (sigItem (F := F) c) : sProp 𝕄)
      = iprop(bigSep Finset.univ (sigTok c) ∗ bigSep Finset.univ fun k : Fin 15 => iprop(∃ f, slotPts c (peer c k) fullShare f)) := by
    rw [← bigSep_sep']; rfl
  rw [e]
  iintro ⟨HO, ⟨%f, Hy⟩, Ht⟩
  ihave H := (Entails.of_eq ((table_split c fullShare f).trans (over_devices c _))) $$ Hy
  icases H with ⟨H0, Hp⟩
  isplitr [H0]
  · isplitl [HO]; · iexact HO
    isplitl [Ht]; · iexact Ht
    have ho : ∀ k : Fin 15, (slotPts c (peer c k) fullShare f : sProp 𝕄) ⊢ iprop(∃ f, slotPts c (peer c k) fullShare f) := fun k => by
      iintro H; iexists f; iexact H
    have hm : (bigSep Finset.univ fun k : Fin 15 => slotPts c (peer c k) fullShare f)
        ⊢ (bigSep Finset.univ fun k : Fin 15 => iprop(∃ f, slotPts c (peer c k) fullShare f) : sProp 𝕄) :=
      bigSep_mono fun k _ => ho k
    iapply hm; iexact Hp
  · iexists f; iexact H0

/-- From the last transfer on: the credits of the transfers and the positions at the send cells wait for the end, and the
    device turns to the landings. -/
theorem receiving_start (c : Dev nD) :
    iprop(Sending m c 15 ∗ (bigSep Finset.univ fun k : Fin 15 => cred (tallyAt (recvCell c (peer c k)) () N))
        ∗ (bigSep Finset.univ fun k : Fin 15 => atPos ER (recvCell c (peer c k)) 0 ∅ 0)
        ∗ (bigSep Finset.univ fun k : Fin 15 => atPos ER (sendCell c k.succ) 0 ∅ 0))
      ⊢ iprop(Receiving m c 0 ∗ bigSep Finset.univ (drainItem (F := F) c)) := by
  unfold Sending Receiving
  rw [owedRecv_end, rem_end, bigSep_empty, done_end, rem_zero, done_zero, bigSep_empty]
  have e₁ : (bigSep Finset.univ (recvItem (F := F) c) : sProp 𝕄)
      = iprop((bigSep Finset.univ fun k : Fin 15 => cred (tallyAt (recvCell c (peer c k)) () N))
        ∗ bigSep Finset.univ fun k : Fin 15 => atPos ER (recvCell c (peer c k)) 0 ∅ 0) := by
    rw [← bigSep_sep']; rfl
  have e₂ : (bigSep Finset.univ (drainItem (F := F) c) : sProp 𝕄)
      = iprop(bigSep Finset.univ (sentItem c) ∗ bigSep Finset.univ fun k : Fin 15 => atPos ER (sendCell c k.succ) 0 ∅ 0) := by
    rw [← bigSep_sep']; rfl
  rw [e₁, e₂]
  iintro ⟨⟨HO, -, Hs⟩, Hc, Hr, Ha⟩
  isplitr [Hs Ha]
  · isplitl [HO]; · iexact HO
    isplitl [Hc Hr]
    · isplitl [Hc] <;> iassumption
    iempintro
  · isplitl [Hs] <;> iassumption

/-- At the end the shares of the device's own rows and every peer's rows are the whole table's buffer again. -/
theorem table_back (c : Dev nD) :
    iprop(Draining m c 15 ∗ slotPts c c (part 0) (table m) ∗ bigSep Finset.univ (recvdItem m c))
      ⊢ iprop((∃ W, owes (c : Thread nD τ) 0 W) ∗ (((c : Thread nD τ).loc cc0_scratch0) ↦{fullShare} table m)
        ∗ (bigSep Finset.univ fun k : Fin 15 => semVal (sendCell c k.succ) 0)
        ∗ bigSep Finset.univ fun k : Fin 15 => semVal (recvCell c (peer c k)) 0) := by
  unfold Draining
  rw [rem_end, bigSep_empty, done_end, table_split, over_devices c, slot_parts, over_parts]
  have e₁ : (bigSep Finset.univ (drainedItem m c) : sProp 𝕄)
      = iprop((bigSep Finset.univ fun k : Fin 15 => semVal (sendCell c k.succ) 0)
        ∗ bigSep Finset.univ fun k : Fin 15 => slotPts c c (part k.succ) (table m)) := by
    rw [← bigSep_sep']; rfl
  have e₂ : (bigSep Finset.univ (recvdItem m c) : sProp 𝕄)
      = iprop((bigSep Finset.univ fun k : Fin 15 => semVal (recvCell c (peer c k)) 0)
        ∗ bigSep Finset.univ fun k : Fin 15 => slotPts c (peer c k) fullShare (table m)) := by
    rw [← bigSep_sep']; rfl
  rw [e₁, e₂]
  iintro ⟨⟨HO, -, Hz, Hs⟩, H0, Hv, Hp⟩
  isplitl [HO]; · iexact HO
  isplitl [H0 Hs Hp]
  · isplitl [H0 Hs]
    · isplitl [H0] <;> iassumption
    iexact Hp
  isplitl [Hz] <;> iassumption

/-- The send cell no transfer pays closes at zero. -/
theorem unused_send (K : Dev nD × Slot → ℕ) (c : Dev nD) :
    iprop(records m K ∗ atPos ER (sendCell c 0) 0 ∅ 0) ⊢ |={Set.univ}=> (semVal (sendCell c 0) 0 : sProp 𝕄) := by
  iintro ⟨#HR, Hat⟩
  ihave Hi := (inv_send m K c 0) $$ HR
  imod (Rounds.cell_close ER (rd m) (Set.mem_univ (K (c, .inr (.inl 0)))) (fun h => h) (R := 0) (duties_send_zero m c)) $$ [Hat] with Hz
  · isplitl [Hi] <;> iassumption
  imodintro; iexact Hz

/-- The receive cell of the device itself, which nobody pays, closes at zero. -/
theorem unused_recv (K : Dev nD × Slot → ℕ) (c : Dev nD) :
    iprop(records m K ∗ atPos ER (recvCell c c) 0 ∅ 0) ⊢ |={Set.univ}=> (semVal (recvCell c c) 0 : sProp 𝕄) := by
  iintro ⟨#HR, Hat⟩
  ihave Hi := (inv_recv m K c c) $$ HR
  imod (Rounds.cell_close ER (rd m) (Set.mem_univ (K (c, .inr (.inr c)))) (fun h => h) (R := 0) (duties_recv_self m c)) $$ [Hat] with Hz
  · isplitl [Hi] <;> iassumption
  imodintro; iexact Hz

/-! ## The run -/

/-- Before the body: the state above, the staged inputs, and the result's buffer at any contents. -/
def bodyPre (K : Dev nD × Slot → ℕ) (c : Dev nD) : sProp 𝕄 :=
  iprop((records m K ∗ linear c ∗ credits c ∗ levAts L lv ∗ ∃ f, ((c : Thread nD τ).loc cc0_scratch0) ↦{fullShare} f)
    ∗ (∃ W, owes (c : Thread nD τ) (owed₀ c) W)
    ∗ (((c : Thread nD τ).loc cc0_stg0_0) ↦{fullShare} xAt m c) ∗ (((c : Thread nD τ).loc cc0_stg1_0) ↦{fullShare} routeAt m c)
    ∗ (((c : Thread nD τ).loc cc0_stg2_0) ↦{fullShare} wAt m c) ∗ (∃ f, ((c : Thread nD τ).loc cc0_stg3_0) ↦{fullShare} f))

/-- After it: the table's buffer, the semaphores at zero, the inputs as they were, and the result. -/
def bodyPost (c : Dev nD) : sProp 𝕄 :=
  iprop(Φ₁ c ∗ (∃ W, owes (c : Thread nD τ) 0 W)
    ∗ (((c : Thread nD τ).loc cc0_stg0_0) ↦{fullShare} xAt m c) ∗ (((c : Thread nD τ).loc cc0_stg1_0) ↦{fullShare} routeAt m c)
    ∗ (((c : Thread nD τ).loc cc0_stg2_0) ↦{fullShare} wAt m c) ∗ (((c : Thread nD τ).loc cc0_stg3_0) ↦{fullShare} outAt m c))

/-- The whole program on device `c`. -/
theorem sound_body (K : Dev nD × Slot → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (F := F) xM wx rM wr wM ww oM wo yM wy cc0_scratch1 cc0_scratch2) Kt := by
  rw [cc0_body_eq_skeleton]; unfold cc0_body_skel bodyPre linear credits
  rw [over_slots c]
  iintro ⟨⟨⟨#HR, ⟨⟨HaB, ⟨HaS0, HaS⟩, HaV0, HaV⟩, HtB, HtS⟩, ⟨HcB, HcV⟩, Hlev, Hy⟩, HO, Hx, Hr, Hw, Ho⟩, Hk⟩
  ihave H := (signalling_start c) $$ [HO Hy HtB]
  · isplitl [HO]; · iexact HO
    isplitl [Hy] <;> iassumption
  icases H with ⟨HS, Hrows⟩
  rw [wp_bind]
  iapply (part1 m K c)
  isplitr; · iexact HR
  isplitl [HS]; · iexact HS
  iintro %w1 %w1' HS
  rw [wp_bind]
  iapply (part2 m K c)
  isplitr; · iexact HR
  isplitl [HS]; · iexact HS
  iintro %w2 %w2' HS
  rw [wp_bind]
  iapply (part3 m K c)
  isplitr; · iexact HR
  isplitl [HS]; · iexact HS
  isplitl [Hr]; · iexact Hr
  iintro ⟨HS, Hr⟩
  rw [wp_bind]
  iapply (part4 c)
  rw [wp_bind]
  iapply (part5 m c)
  isplitl [Hx]; · iexact Hx
  isplitl [Hw]; · iexact Hw
  isplitl [Hrows]; · iexact Hrows
  iintro ⟨Hx, Hw, Hrows⟩
  rw [wp_bind]
  iapply (part6 m K c)
  isplitr; · iexact HR
  isplitl [HS]; · iexact HS
  isplitl [Hlev HcB HaB Hrows HtS]
  · isplitl [Hlev]; · iexact Hlev
    isplitl [HcB]; · iexact HcB
    isplitl [HaB]; · iexact HaB
    isplitl [Hrows] <;> iassumption
  iintro ⟨HS, H0, HzB⟩
  rw [wp_bind]
  iapply (part7 m K c)
  isplitr; · iexact HR
  isplitl [HS]; · iexact HS
  iintro %w7 HS
  rw [wp_bind]
  iapply (part8 m K c)
  isplitr; · iexact HR
  isplitl [HS]; · iexact HS
  iintro %w8 HS
  rw [wp_bind]
  iapply (part9 m K c)
  isplitr; · iexact HR
  isplitl [HS]; · iexact HS
  iintro HS
  rw [wp_bind]
  iapply (part10 m K c)
  isplitr; · iexact HR
  isplitl [HS]; · iexact HS
  iintro %w10 %w10' HS
  rw [wp_bind]
  iapply (part11 m K c)
  isplitr; · iexact HR
  isplitl [HS]; · iexact HS
  iintro HS
  ihave H := (receiving_start m c) $$ [HS HcV HaV HaS]
  · isplitl [HS]; · iexact HS
    isplitl [HcV]; · iexact HcV
    isplitl [HaV]; · iexact HaV
    iexact HaS
  icases H with ⟨HS, Hd⟩
  rw [wp_bind]
  iapply (part12 m K c)
  isplitr; · iexact HR
  isplitl [HS]; · iexact HS
  iintro %w12 %w12' HS
  rw [wp_bind]
  iapply (part13 m K c)
  isplitr; · iexact HR
  isplitl [HS]; · iexact HS
  iintro %w13 %w13' HS
  rw [wp_bind]
  iapply (part14 m K c)
  isplitr; · iexact HR
  isplitl [HS]; · iexact HS
  iintro %w14 %w14' HS
  rw [wp_bind]
  iapply (part15 m K c)
  isplitr; · iexact HR
  isplitl [HS]; · iexact HS
  iintro %w15 %w15' HS
  rw [wp_bind]
  iapply (part16 m K c)
  isplitr; · iexact HR
  isplitl [HS]; · iexact HS
  iintro %w16 %w16' HS
  rw [wp_bind]
  iapply (part17 m K c)
  isplitr; · iexact HR
  isplitl [HS]; · iexact HS
  isplitl [H0 Ho Hd]
  · isplitl [H0]; · iexact H0
    isplitl [Ho] <;> iassumption
  iintro ⟨HS, H0, Hv, Ho⟩
  rw [wp_bind]
  iapply (part18 m K c)
  isplitr; · iexact HR
  isplitl [HS]; · iexact HS
  iintro HS
  rw [wp_bind]
  iapply (part19 m K c)
  isplitr; · iexact HR
  isplitl [HS]; · iexact HS
  iintro HS
  ihave HzS := (unused_send m K c) $$ [HaS0]
  · isplitr; · iexact HR
    iexact HaS0
  ihave HzV := (unused_recv m K c) $$ [HaV0]
  · isplitr; · iexact HR
    iexact HaV0
  imod HzS; imod HzV
  have hend : iprop(Draining m c 15 ∗ (slotPts c c (part 0) (table m) ∗ bigSep Finset.univ (recvdItem m c) ∗ semVal (barCell c) 0
        ∗ semVal (sendCell c 0) 0 ∗ semVal (recvCell c c) 0
        ∗ (((c : Thread nD τ).loc cc0_stg0_0) ↦{fullShare} xAt m c) ∗ (((c : Thread nD τ).loc cc0_stg1_0) ↦{fullShare} routeAt m c)
        ∗ (((c : Thread nD τ).loc cc0_stg2_0) ↦{fullShare} wAt m c) ∗ (((c : Thread nD τ).loc cc0_stg3_0) ↦{fullShare} outAt m c)
        ∗ (bodyPost m c -∗ Kt ⟨⟩))) ⊢ Kt ⟨⟩ := by
    iintro ⟨HS, H0, Hv, HzB, HzS, HzV, Hx, Hr, Hw, Ho, Hk⟩
    ihave H := (table_back m c) $$ [HS H0 Hv]
    · isplitl [HS]; · iexact HS
      isplitl [H0] <;> iassumption
    icases H with ⟨HO, Hy, Hzs, Hzv⟩
    iapply Hk
    unfold bodyPost Φ₁
    rw [over_own c]
    isplitl [Hy HzS Hzs HzV Hzv HzB]
    · isplitl [Hy]; · iexists (table m); iexact Hy
      isplitr [HzB]
      · isplitl [HzS Hzs]
        · isplitl [HzS]; · iexact HzS
          iexact Hzs
        isplitl [HzV]; · iexact HzV
        iexact Hzv
      iexact HzB
    isplitl [HO]; · iexact HO
    isplitl [Hx]; · iexact Hx
    isplitl [Hr]; · iexact Hr
    isplitl [Hw] <;> iassumption
  iapply (drain_at m K c 14 rfl (ret_of hend))
  isplitr; · iexact HR
  isplitl [HS]; · iexact HS
  isplitl [H0]; · iexact H0
  isplitl [Hv]; · iexact Hv
  isplitl [HzB]; · iexact HzB
  isplitl [HzS]; · iexact HzS
  isplitl [HzV]; · iexact HzV
  isplitl [Hx]; · iexact Hx
  isplitl [Hr]; · iexact Hr
  isplitl [Hw]; · iexact Hw
  isplitl [Ho]; · iexact Ho
  iexact Hk

/-! ## The obligation of the launch -/

set_option maxRecDepth 4000 in
/-- What the launch asks of the body: from the buffers as they were fetched to the buffers as they leave. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  have hx : (dats m 0 c).before (0 : Fin 4) t0_0 = fun _ => xAt m c := by
    funext d; unfold Dat.before; rw [if_pos (fetch0_0 t0_0)]; rfl
  have hr : (dats m 0 c).before (1 : Fin 4) t0_0 = fun _ => routeAt m c := by
    funext d; unfold Dat.before; rw [if_pos (fetch0_1 t0_0)]; rfl
  have hw : (dats m 0 c).before (2 : Fin 4) t0_0 = fun _ => wAt m c := by
    funext d; unfold Dat.before; rw [if_pos (fetch0_2 t0_0)]; rfl
  rw [hx, hr, hw]
  show _ ⊢ wp frame (wpE (defs₀ (F := F)) 𝒱₀ (c : Thread nD τ) none) Set.univ
        (cc0_body (F := F) xM wx rM wr wM ww oM wo yM wy cc0_scratch1 cc0_scratch2) _
  rw [show (dats m 0 c).Φ t0_0.castSucc = Φ₀ m c from rfl, show (dats m 0 c).Φ t0_0.succ = Φ₁ c from rfl,
    show (dats m 0 c).after (0 : Fin 4) t0_0 = xAt m c from rfl, show (dats m 0 c).after (1 : Fin 4) t0_0 = routeAt m c from rfl,
    show (dats m 0 c).after (2 : Fin 4) t0_0 = wAt m c from rfl, show (dats m 0 c).after (3 : Fin 4) t0_0 = outAt m c from rfl]
  unfold Φ₀ start Dat.owesAt Pipeline.owesWithin
  rw [show (dats m 0 c).owed t0_0.castSucc = owed₀ c from rfl, show (dats m 0 c).owed t0_0.succ = 0 from rfl]
  iintro ⟨⟨⟨⟨%K, #HR, Hlin⟩, Hc, Hlev⟩, Hy⟩, ⟨%W, %hW, HO⟩, ⟨%d0, %f0, %h0, Hx⟩, ⟨%d1, %f1, %h1, Hr⟩, ⟨%d2, %f2, %h2, Hw⟩, ⟨%d3, %f3, %h3, Ho⟩⟩
  subst h0; subst h1; subst h2
  iapply (sound_body m K c)
  unfold bodyPre bodyPost
  isplitl [Hlin Hc Hlev Hy HO Hx Hr Hw Ho]
  · isplitl [Hlin Hc Hlev Hy]
    · isplitr; · iexact HR
      isplitl [Hlin]; · iexact Hlin
      isplitl [Hc]; · iexact Hc
      isplitl [Hlev] <;> iassumption
    isplitl [HO]; · iexists W; iexact HO
    isplitl [Hx]; · iexact Hx
    isplitl [Hr]; · iexact Hr
    isplitl [Hw]; · iexact Hw
    iexists f3; iexact Ho
  iintro ⟨HΦ, ⟨%W', HO⟩, Hx, Hr, Hw, Ho⟩
  isplitl [HΦ]; · iexact HΦ
  isplitl [HO]
  · iexists W'
    isplitr; · ipureintro; exact fun _ _ => Or.inl trivial
    iexact HO
  isplitl [Hx]
  · iexists (xAt m c); isplitr; · ipureintro; rfl
    iexact Hx
  isplitl [Hr]
  · iexists (routeAt m c); isplitr; · ipureintro; rfl
    iexact Hr
  isplitl [Hw]
  · iexists (wAt m c); isplitr; · ipureintro; rfl
    iexact Hw
  iexists (outAt m c); isplitr; · ipureintro; rfl
  iexact Ho

end Cert.Exchange
-- ==== Proof.Launch.lean ====
/-
# The launch

What every device is dealt at the start: its cells' invariants, its positions, the tokens of the duties it pays, and the
credits the sixteen devices' debts amount to. From it the run of the whole mesh (`run_main`).
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores are distinct from each other and from the staging ones. -/
theorem ownSemFacts : Pipeline.OwnSemFacts cfg0.spec osem := by decide

/-- Every window's array is held outright. -/
theorem share_eq (c : Dev nD) (w : Fin cfg0.W) : (dats m 0 c).share w = fullShare := by unfold Pipeline.Dat.share; split <;> rfl

/-- Every device's cells. -/
def allCells : Finset (GSem nD τ sig) := Finset.univ.map ⟨kcell, kcell_inj⟩

/-- The duties device `c` pays: its `k`-th peer's barrier unit, the reading of its own rows by transfer `k`, their landing there. -/
def tokOf (cj : Dev nD × (Fin 15 ⊕ (Fin 15 ⊕ Fin 15))) : GSem nD τ sig × ℕ × Fin 15 := match cj.2 with
  | .inl k => (barCell (peer cj.1 k), 0, k)
  | .inr (.inl k) => (sendCell cj.1 k.succ, 0, 0)
  | .inr (.inr k) => (recvCell (peer cj.1 k) cj.1, 0, 0)

/-- A barrier cell is no send cell, -/
theorem bar_ne_send (c d : Dev nD) (t : Fin 16) : barCell c ≠ sendCell d t := fun h =>
  nomatch congrArg Prod.snd (kcell_inj (show kcell (c, .inl ()) = kcell (d, .inr (.inl t)) from h))
/-- and no receive cell; -/
theorem bar_ne_recv (c d : Dev nD) (o : Fin 16) : barCell c ≠ recvCell d o := fun h =>
  nomatch congrArg Prod.snd (kcell_inj (show kcell (c, .inl ()) = kcell (d, .inr (.inr o)) from h))
/-- a send cell is no receive cell. -/
theorem send_ne_recv (c d : Dev nD) (t o : Fin 16) : sendCell c t ≠ recvCell d o := fun h =>
  nomatch congrArg Prod.snd (kcell_inj (show kcell (c, .inr (.inl t)) = kcell (d, .inr (.inr o)) from h))
/-- A barrier cell has one device; -/
theorem bar_inj {c d : Dev nD} (h : barCell c = barCell d) : c = d :=
  congrArg Prod.fst (kcell_inj (show kcell (c, .inl ()) = kcell (d, .inl ()) from h))
/-- a send cell one device and one transfer; -/
theorem send_inj {c d : Dev nD} {t u : Fin 16} (h : sendCell c t = sendCell d u) : c = d ∧ t = u := by
  have e := kcell_inj (show kcell (c, .inr (.inl t)) = kcell (d, .inr (.inl u)) from h)
  injection e with e₁ e₂; injection e₂ with e₂; injection e₂ with e₂; exact ⟨e₁, e₂⟩
/-- a receive cell one device and one sender. -/
theorem recv_inj {c d : Dev nD} {o p : Fin 16} (h : recvCell c o = recvCell d p) : c = d ∧ o = p := by
  have e := kcell_inj (show kcell (c, .inr (.inr o)) = kcell (d, .inr (.inr p)) from h)
  injection e with e₁ e₂; injection e₂ with e₂; injection e₂ with e₂; exact ⟨e₁, e₂⟩

/-- Different duties are different tokens. -/
theorem tokOf_inj : Function.Injective tokOf := by
  rintro ⟨c, k | k | k⟩ ⟨d, j | j | j⟩ h
  all_goals have hg := congrArg Prod.fst h
  · have hk : k = j := congrArg (fun x : GSem nD τ sig × ℕ × Fin 15 => x.2.2) h
    subst hk
    have hp := bar_inj hg
    have : c = d := by rw [← back_peer c k, ← back_peer d k]; exact congrArg (back · k) hp
    subst this; rfl
  · exact absurd hg (bar_ne_send _ _ _)
  · exact absurd hg (bar_ne_recv _ _ _)
  · exact absurd hg.symm (bar_ne_send _ _ _)
  · obtain ⟨rfl, hk⟩ := send_inj hg
    have := Fin.succ_injective _ hk
    subst this; rfl
  · exact absurd hg (send_ne_recv _ _ _ _)
  · exact absurd hg.symm (bar_ne_recv _ _ _)
  · exact absurd hg.symm (send_ne_recv _ _ _ _)
  · obtain ⟨hp, hc⟩ := recv_inj hg
    have hc : c = d := hc
    subst hc
    have := peer_inj hp
    subst this; rfl

/-- Every duty's token. -/
def allToks : Finset (GSem nD τ sig × ℕ × Fin 15) := Finset.univ.map ⟨tokOf, tokOf_inj⟩

/-- The ghost state at the launch: the pipeline's cells and tokens, and the kernel's own. -/
def u₀ : UU :=
  (initOf (Pipeline.cells cfgs cellOf_inj) (Pipeline.launchToks cfgs cellOf_inj), initOf allCells allToks)

/-- The tokens device `c` starts with: -/
def toks (c : Dev nD) : sProp 𝕄 := iprop(bigSep Finset.univ (sigTok c) ∗ bigSep Finset.univ (sendToks c))

/-- What a device's ghost state is at the start. -/
def G (c : Dev nD) : sProp 𝕄 :=
  iprop((bigSep Finset.univ fun k : Slot => roundState ER (rd m) (kcell (c, k)) 0)
    ∗ (bigSep Finset.univ fun k : Slot => iprop(atPos ER (kcell (c, k)) 0 ∅ 0 ∗ reached ER (kcell (c, k)) 0)) ∗ toks c)
/-- What it is once the invariants stand. -/
def G' (c : Dev nD) : sProp 𝕄 := iprop(∃ K, records m K ∗ linear c)

/-- they are those of the duties it pays. -/
theorem toks_eq (c : Dev nD) :
    (bigSep Finset.univ fun j => dutyTok ER (tokOf (c, j)).1 (tokOf (c, j)).2.1 (tokOf (c, j)).2.2 : sProp 𝕄) = toks c := by
  have e : (bigSep Finset.univ (sendToks c) : sProp 𝕄)
      = iprop((bigSep Finset.univ fun k : Fin 15 => dutyTok ER (sendCell c k.succ) 0 0)
        ∗ bigSep Finset.univ fun k : Fin 15 => dutyTok ER (recvCell (peer c k) c) 0 0) := by
    rw [← bigSep_sep']; rfl
  unfold toks
  rw [bigSep_univ_sum, bigSep_univ_sum, e]
  rfl

/-- The kernel's ghost state at the launch is every device's share of it. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Slot => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The one semaphore that outlives the call is the barrier's, -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- and the call's own are the sends' and the receives'. -/
theorem ownSems0_eq (c : Dev nD) : (Pipeline.ownSems0 (Ix := Unit) (Name := ℕ) (U := UU) (Lvl := ℕ) (Val := Elt F) (τ := τ) osem c : sProp 𝕄)
    = bigSep Finset.univ fun k : Fin 16 ⊕ Fin 16 => semVal (kcell (c, .inr k)) 0 := rfl

/-- A device's own semaphores and its barrier's, over all its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Slot => semVal (kcell (c, k)) 0 : sProp 𝕄) := by
  rw [ownSems0_eq, unscopedSems0_eq, bigSep_univ_sum (fun k : Slot => (semVal (kcell (c, k)) 0 : sProp 𝕄)),
    show (bigSep Finset.univ fun u : Unit => (semVal (kcell (c, .inl u)) 0 : sProp 𝕄)) = semVal (barCell c) 0 from bigSep_singleton]
  exact sep_comm.1

/-- The invariants of one device's cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Slot => iprop(∃ κ : ℕ, cellInv ER (rd m) κ (kcell (c, k))))
          ∗ (bigSep Finset.univ fun k : Slot => iprop(atPos ER (kcell (c, k)) 0 ∅ 0 ∗ reached ER (kcell (c, k)) 0)) ∗ toks c) := by
  have hinv : iprop((bigSep Finset.univ fun k : Slot => semVal (kcell (c, k)) 0) ∗ bigSep Finset.univ fun k : Slot => roundState ER (rd m) (kcell (c, k)) 0)
      ⊢ (|={Set.univ}=> bigSep Finset.univ fun k : Slot => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- A persistent fact beside a family, handed to each of its members. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and what has been reached, of all devices, become every device's records. -/
theorem share_records :
    (bigSep Finset.univ fun c : Dev nD => iprop((bigSep Finset.univ fun k : Slot => iprop(∃ κ : ℕ, cellInv ER (rd m) κ (kcell (c, k))))
          ∗ (bigSep Finset.univ fun k : Slot => iprop(atPos ER (kcell (c, k)) 0 ∅ 0 ∗ reached ER (kcell (c, k)) 0)) ∗ toks c) : sProp 𝕄)
      ⊢ bigSep Finset.univ (G' m) := by
  have hG (K : Dev nD × Slot → ℕ) (c : Dev nD) : iprop(records m K ∗ linear c) ⊢ G' m c := by
    unfold G'; iintro H; iexists K; iexact H
  have hlin : iprop((bigSep Finset.univ fun c : Dev nD => bigSep Finset.univ fun k : Slot => atPos ER (kcell (c, k)) 0 ∅ 0)
      ∗ (bigSep Finset.univ fun c : Dev nD => toks c)) ⊢ (bigSep Finset.univ fun c : Dev nD => linear c : sProp 𝕄) := by
    rw [← bigSep_sep']; exact bigSep_mono fun c _ => Entails.of_eq (show _ = linear c from rfl)
  rw [bigSep_sep', bigSep_sep', ← bigSep_univ_prod (fun ck : Dev nD × Slot => iprop(∃ κ : ℕ, cellInv ER (rd m) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (rd m) κ (kcell ck) : sProp 𝕄))) $$ HI
  icases HK with ⟨%K, #HI⟩
  iapply (to_each (R := records m K) fun c _ => hG K c)
  isplitr
  · unfold records; isplitl; · iexact HI
    iexact HR
  · iapply hlin
    isplitl [Hat] <;> iassumption

/-- All devices' semaphores and ghost state become all devices' records. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (share_records m))

/-! ## The credits -/

/-- A sum of single-cell tallies at one cell counts how often the cell is named. -/
theorem sum_tally_apply (cell : Fin 15 → GSem nD τ sig) (n : ℕ) (g : GSem nD τ sig) :
    (∑ k, tallyAt (cell k) () n : CellTallies nD τ sig Unit) g () = ∑ k, if g = cell k then n else 0 := by
  rw [Finset.sum_apply, Finsupp.finset_sum_apply]
  refine Finset.sum_congr rfl fun k _ => ?_
  rw [tallyAt_apply]; simp

/-- What device `d` owes at a cell, counted over its steps. -/
theorem owed₀_apply (d : Dev nD) (g : GSem nD τ sig) :
    owed₀ d g () = (∑ k, if g = recvCell (peer d k) d then N else 0) + ∑ k, if g = barCell (peer d k) then 1 else 0 := by
  unfold owed₀ owedRecv owedBar
  rw [rem_zero, Pi.add_apply, Finsupp.add_apply, sum_tally_apply, sum_tally_apply]

/-- Over all devices a barrier cell is owed fifteen units, -/
theorem launch_bar (c : Dev nD) :
    tallyOn (barCell c) (launchCredit (Pipeline.owing owed₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed₀_apply d (barCell c), Finset.sum_add_distrib]
  have h₁ : ∀ d : Dev nD, (∑ k : Fin 15, if barCell c = recvCell (peer d k) d then N else 0) = 0 := fun d =>
    Finset.sum_eq_zero fun k _ => if_neg (bar_ne_recv _ _ _)
  have h₂ : ∀ k : Fin 15, (∑ d : Dev nD, if barCell c = barCell (peer d k) then 1 else 0) = 1 := fun k => by
    rw [Finset.sum_eq_single (back c k)]
    · exact if_pos (by rw [peer_back])
    · intro d _ hd
      refine if_neg fun h => hd ?_
      rw [bar_inj h, back_peer]
    · exact fun h => absurd (Finset.mem_univ _) h
  rw [Finset.sum_congr rfl fun d _ => h₁ d, Finset.sum_comm, Finset.sum_congr rfl fun k _ => h₂ k]
  decide

/-- and a receive cell one transfer's units. -/
theorem launch_recv (c : Dev nD) (k : Fin 15) :
    tallyOn (recvCell c (peer c k)) (launchCredit (Pipeline.owing owed₀) 0 (recvCell c (peer c k))) = (tallyAt (recvCell c (peer c k)) () N : CellTallies nD τ sig Unit) := by
  unfold tallyAt; refine congrArg _ (Finsupp.ext fun u => ?_); cases u
  rw [Pipeline.launchCredit_owing, Finsupp.single_eq_same, Finset.sum_congr rfl fun d _ => owed₀_apply d (recvCell c (peer c k)), Finset.sum_add_distrib]
  have h₁ : ∀ d : Dev nD, (∑ j : Fin 15, if recvCell c (peer c k) = barCell (peer d j) then 1 else 0) = 0 := fun d =>
    Finset.sum_eq_zero fun j _ => if_neg fun h => bar_ne_recv _ _ _ h.symm
  rw [Finset.sum_congr rfl fun d _ => h₁ d, Finset.sum_const_zero, Nat.add_zero, Finset.sum_eq_single (peer c k)]
  · obtain ⟨j, hj⟩ := exists_peer (peer_ne c k).symm
    rw [Finset.sum_eq_single j]
    · exact if_pos (by rw [hj])
    · intro i _ hi
      refine if_neg fun h => hi (peer_inj (c := peer c k) ?_)
      rw [hj]; exact (recv_inj h).1.symm
    · exact fun h => absurd (Finset.mem_univ _) h
  · intro d _ hd
    exact Finset.sum_eq_zero fun j _ => if_neg fun h => hd (recv_inj h).2.symm
  · exact fun h => absurd (Finset.mem_univ _) h

/-- So each device is given the credits it waits with. -/
theorem creds (c : Dev nD) : (Pipeline.launchCred owed₀ c : sProp 𝕄) ⊢ credits c := by
  unfold Pipeline.launchCred credits
  rw [bigSep_univ_at _ (SemLoc.reg barS), launch_bar]
  refine sep_mono_right ?_
  have hr : Function.Injective fun k : Fin 15 => (SemLoc.dma (recvS (peer c k)) : SemLoc sig) := fun k j h =>
    peer_inj (recv_inj (c := c) (d := c) (congrArg (Prod.mk (c : Thread nD τ)) h)).2
  have hs : (Finset.univ.map ⟨_, hr⟩) ⊆ Finset.univ.erase (SemLoc.reg barS : SemLoc sig) := by
    intro x hx
    obtain ⟨k, hk⟩ := Finset.mem_map.mp hx
    rw [← hk.2]
    exact Finset.mem_erase.mpr ⟨fun h => (nomatch h), Finset.mem_univ _⟩
  refine (bigSep_subset hs).trans ?_
  rw [bigSep_map]
  exact bigSep_mono fun k _ => Entails.of_eq (congrArg cred (launch_recv c k))

/-! ## The side conditions -/

/-- The argument the kernel does not read. -/
def kept (c : Dev nD) : sProp 𝕄 := iprop(((c : Thread nD τ).loc main_arg1) ↦{fullShare} m ((c : Thread nD τ).loc main_arg1))

/-- What a device is given at the launch is what it starts with, and the argument it does not read. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ kept m c) := by
  rw [Pipeline.unscopedRestP_none, unscopedRest0_eq]
  iintro ⟨Hk, Hlev, Hcr, -, HG⟩
  ihave Hc := (creds (F := F) c) $$ Hcr
  imodintro
  unfold start G' kept
  isplitr [Hk]
  · isplitl [HG]; · iexact HG
    isplitl [Hc] <;> iassumption
  · iexact Hk

/-- With the table's buffer it is the state before the body, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- and the state after the body gives back the semaphores at zero and the buffer. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz] <;> iassumption

/-- Every wait of the pipeline's own is allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

/-- What the arrays hold at the end. -/
def Final (c : Dev nD) (s : MemSt nD τ sig (Elt F)) : Prop :=
  (∀ w, s.mem ((cfg0.win w).arr.view.loc (c : Thread nD τ)) = (dats m 0 c).arrAt w cfg0.N)
    ∧ s.mem ((c : Thread nD τ).loc main_arg1) = m ((c : Thread nD τ).loc main_arg1)

/-- At the end the counters read zero, and the unread argument what it held. -/
theorem read_end (c : Dev nD) (s' : Phys nD τ sig (Elt F)) :
    iprop(unscopedSems0 c ∗ kept m c ∗ SI s') ⊢ |={Set.univ}=> (iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold kept
  iintro ⟨Hu, Hk, HSI⟩
  icombine HSI Hk gives %hk
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => hk i (Finset.mem_univ i)⟩
  iexact HSI

set_option maxRecDepth 8000 in
/-- On all sixteen devices, for any float values and from any memory with its counters at zero: every fair execution ends,
    each device's arrays hold what `dats` says, the unread argument what it held, and every counter is zero. -/
theorem run_main : θ_run defs (onTc (τ := τ) (main (F := F))) (⟨m, fun _ => 0, ρ⟩) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

end Cert.Exchange
-- ==== Proof.Frames.lean ====
/-
# The frames

From the run of the mesh: every device's arguments keep their contents, every counter is zero. The program as printed and
its reading over the extended reals are one text, so both frames are the one run, at two kinds of float values. The
reference is a straight line of array operations.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]

/-- The run, read at the four arguments and at the result. -/
theorem run_values (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = (dats m 0 c).arrAt (3 : Fin 4) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 3, ((h.1 c).1 0).trans ((dats m 0 c).arrAt_in 0 rfl _), (h.1 c).2,
      ((h.1 c).1 1).trans ((dats m 0 c).arrAt_in 1 rfl _), ((h.1 c).1 2).trans ((dats m 0 c).arrAt_in 2 rfl _)⟩, h.2⟩) (run_main m ρ)

/-- The arguments unchanged and the counters at zero, for any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_values m ρ)

/-- The frame over the extended reals. -/
theorem frame_ideal : Cert.quiescent_KernelIdeal := fun m ρ _ => frame_any m ρ

/-- The printed program's body table is the other's: the same body at the one label. -/
theorem bodies_eq : Cert.Kernel.defs₀ (F := F) = defs₀ :=
  congrArg Defs.onTc (funext fun l => funext fun a => by
    match l, a with
    | 0, (t, s) => rfl)

/-- So are the tables of all bodies. -/
theorem tables_eq : Cert.Kernel.defs (F := F) = defs := congrArg (Pipeline.defs pcfgs) bodies_eq

/-- The frame of the program as printed. -/
theorem frame_kernel : Cert.quiescent_Kernel := fun m ρ _ => by
  rw [tables_eq]
  exact frame_any (F := Bits) m ρ

/-- The reference's frame: it declares no semaphore, and writes no argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange
-- ==== Proof.Count.lean ====
/-
# A token's place among the tokens that chose its expert

The kernel counts, for every token, the tokens up to and including it that chose the same expert: a lower triangle of
ones times the tokens' one-hot rows, read at the token's own expert. A token whose number is no expert counts nothing.
-/
module

public import proofs.«01_k».proof.Proof.Schedule
public import Idealize.ShloMosaic.Lib.Pointwise
public import Idealize.ShloMosaic.Lib.WordCmp
public import Idealize.ShloMosaic.Lib.WordArith

@[expose] public section

set_option maxRecDepth 16384

noncomputable section

namespace Cert.Exchange

open Cert.KernelIdeal Cert.KernelIdeal.Gen
open Idealize.ShloMosaic
open scoped BigOperators

/-- The expert's number that a token asks for. -/
def expertOf (route : IVec S512x1 32) (i : Fin 512) : BitVec 32 := route (ix2 i 0)

/-- The tokens up to and including `i` that ask for the same number as `i`. -/
def sameUpTo (route : IVec S512x1 32) (i : Fin 512) : Finset (Fin 512) :=
  Finset.univ.filter fun j => expertOf route j = expertOf route i ∧ j ≤ i

/-- How many they are: a token's place in its expert's queue, counted from one. -/
def place (route : IVec S512x1 32) (i : Fin 512) : ℕ := (sameUpTo route i).card

/-- A place is at least one, since the token itself is counted, -/
theorem place_pos (route : IVec S512x1 32) (i : Fin 512) : 0 < place route i :=
  Finset.card_pos.mpr ⟨i, Finset.mem_filter.mpr ⟨Finset.mem_univ _, rfl, le_refl _⟩⟩

/-- and at most the number of tokens. -/
theorem place_le (route : IVec S512x1 32) (i : Fin 512) : place route i ≤ 512 := by
  have h := Finset.card_le_univ (sameUpTo route i)
  rwa [Fintype.card_fin] at h

/-- Of two tokens that ask for the same number, the later one has the greater place; -/
theorem place_lt (route : IVec S512x1 32) {i j : Fin 512} (h : expertOf route i = expertOf route j) (hij : i < j) :
    place route i < place route j := by
  refine Finset.card_lt_card (Finset.ssubset_iff_of_subset ?_ |>.mpr ⟨j, ?_, ?_⟩)
  · intro k hk
    obtain ⟨-, h1, h2⟩ := Finset.mem_filter.mp hk
    exact Finset.mem_filter.mpr ⟨Finset.mem_univ _, h1.trans h, h2.trans hij.le⟩
  · exact Finset.mem_filter.mpr ⟨Finset.mem_univ _, rfl, le_refl _⟩
  · intro hk
    exact absurd (Finset.mem_filter.mp hk).2.2 (not_le.mpr hij)

/-- so the number asked for and the place name the token. -/
theorem place_inj (route : IVec S512x1 32) {i j : Fin 512} (h : expertOf route i = expertOf route j)
    (hp : place route i = place route j) : i = j := by
  rcases lt_trichotomy i j with hij | hij | hij
  · exact absurd hp (place_lt route h hij).ne
  · exact hij
  · exact absurd hp (place_lt route h.symm hij).ne'

/-! ## Flags as floats -/

/-- A flag widened to a word and converted is one or zero. -/
theorem flag_float (b : BitVec 1) : (FloatOps.sitofp (F := Ideal) FTy.f32 (BitVec.setWidth 32 b) : EReal) = if b = 1#1 then 1 else 0 := by
  show ((((b.setWidth 32).toInt : ℤ) : ℝ) : EReal) = _
  rcases (by decide : ∀ b : BitVec 1, b = 1#1 ∨ b = 0#1) b with h | h <;> subst h
  · rw [if_pos rfl, show (BitVec.setWidth 32 (1#1)).toInt = 1 by decide]; norm_num
  · rw [if_neg (by decide), show (BitVec.setWidth 32 (0#1)).toInt = 0 by decide]; norm_num

/-- An equality flag is one exactly when the words are equal, -/
theorem flag_eq (x y : BitVec 32) : IntOp.cmpi .eq x y = 1#1 ↔ x = y := by
  rw [WordCmp.cmpi_eq_eq, WordArith.ofBool_eq_one_iff, decide_eq_true_iff]

/-- a conjunction of flags exactly when both are one. -/
theorem flag_and (a b : BitVec 1) : IntOp.andi a b = 1#1 ↔ a = 1#1 ∧ b = 1#1 := by
  revert a b; decide

/-- The comparison of two tokens' numbers compares the tokens. -/
theorem flag_le (i j : Fin 512) : IntOp.cmpi .sle (BitVec.ofNat 32 j.val) (BitVec.ofNat 32 i.val) = 1#1 ↔ j ≤ i := by
  have hi := i.isLt
  have hj := j.isLt
  rw [WordCmp.cmpi_sle_ofNat_eq_one_iff (w := 32) (by norm_num; omega) (by norm_num; omega)]
  exact Iff.rfl

/-- A natural number below 2³¹ converted to a float and back is itself. -/
theorem nat_word (n : ℕ) (h : n < 2 ^ 31) : Ideal.fptosi 32 ((n : ℝ) : EReal) = BitVec.ofNat 32 n := by
  have hz : (⌊(n : ℝ)⌋ : ℤ) = (n : ℤ) := Int.floor_natCast n
  rw [Ideal.fptosi, Ideal.toIntClamped_coe, if_pos (Nat.cast_nonneg n), hz, min_eq_right (by norm_num; omega), max_eq_right (by norm_num),
    BitVec.ofInt_natCast]

/-! ## The count -/

/-- The sum the kernel forms for a token: over the experts, the token's one-hot entry times the number of tokens up to it
    with that expert. -/
theorem count_sum (route : IVec S512x1 32) (i : Fin 512) :
    (∑ e : Fin 64, (if expertOf route i = BitVec.ofNat 32 e.val then (1 : EReal) else 0)
        * ∑ j : Fin 512, (if j ≤ i then (1 : EReal) else 0) * (if expertOf route j = BitVec.ofNat 32 e.val then 1 else 0))
      = if (expertOf route i).toNat < 64 then (((place route i : ℕ) : ℝ) : EReal) else 0 := by
  have hz : ∀ e : Fin 64, expertOf route i = BitVec.ofNat 32 e.val ↔ (expertOf route i).toNat = e.val := by
    intro e
    have he := e.isLt
    constructor
    · intro h; rw [h, BitVec.toNat_ofNat, Nat.mod_eq_of_lt (by omega)]
    · intro h; rw [← h, BitVec.ofNat_toNat, BitVec.setWidth_eq]
  by_cases hv : (expertOf route i).toNat < 64
  · rw [if_pos hv, Finset.sum_eq_single (⟨(expertOf route i).toNat, hv⟩ : Fin 64)]
    · rw [if_pos ((hz _).mpr rfl), one_mul]
      have e1 : ∀ j : Fin 512, (if j ≤ i then (1 : EReal) else 0) * (if expertOf route j = BitVec.ofNat 32 (expertOf route i).toNat then 1 else 0)
          = if expertOf route j = expertOf route i ∧ j ≤ i then 1 else 0 := by
        intro j
        rw [BitVec.ofNat_toNat, BitVec.setWidth_eq, ite_and]
        by_cases h1 : j ≤ i <;> by_cases h2 : expertOf route j = expertOf route i <;> simp [h1, h2]
      rw [Finset.sum_congr rfl fun j _ => e1 j, Finset.sum_boole]
      rfl
    · intro e _ hne
      rw [if_neg, zero_mul]
      intro h
      exact hne (Fin.ext ((hz e).mp h).symm)
    · intro h; exact absurd (Finset.mem_univ _) h
  · rw [if_neg hv]
    refine Finset.sum_eq_zero fun e _ => ?_
    rw [if_neg, zero_mul]
    intro h
    have := (hz e).mp h
    omega

/-- The kernel's word for a token: its place, or zero where the number is no expert. -/
theorem count_word (route : IVec S512x1 32) (i : Fin 512) :
    k0_pay3 (F := Ideal) (k0_pay2 (F := Ideal) route) (ix2 i 0)
      = if (expertOf route i).toNat < 64 then BitVec.ofNat 32 (place route i) else 0#32 := by
  have h : k0_pay3 (F := Ideal) (k0_pay2 (F := Ideal) route) (ix2 i 0)
      = Ideal.fptosi 32 (∑ e : Fin 64, (if expertOf route i = BitVec.ofNat 32 e.val then (1 : EReal) else 0)
        * ∑ j : Fin 512, (if j ≤ i then (1 : EReal) else 0) * (if expertOf route j = BitVec.ofNat 32 e.val then 1 else 0)) := by
    pointwise [k0_pay3, k0_pay2, k0_pay1]
    simp only [flag_float, flag_eq, flag_le]
    rfl
  rw [h, count_sum]
  have hp := place_le route i
  split
  · exact nat_word _ (by omega)
  · have h0 := nat_word 0 (by norm_num)
    rwa [Nat.cast_zero, EReal.coe_zero] at h0

end Cert.Exchange

end
-- ==== Proof.Rows.lean ====
/-
# What the table's rows and the final product hold

Row `s` of the table belongs to place `s % 6 + 1` in the queue of expert `s / 6`. It holds the product of that token's
activations with that expert's matrix, and zero if no token has the place. The final product reads, for every token, the
one row that is the token's, if there is one.
-/
module

public import proofs.«01_k».proof.Proof.Count
public import Idealize.ShloMosaic.Lib.Pointwise.IndexBridge

@[expose] public section

set_option maxRecDepth 16384

noncomputable section

namespace Cert.Exchange

open Cert.KernelIdeal Cert.KernelIdeal.Gen
open Idealize.ShloMosaic
open Idealize.ShloMosaic.TcCoe
open Idealize.SL Idealize.SL.Sem
open scoped BigOperators

/-! ## The words of a row's number -/

/-- A row's expert as the program computes it: a division rounded toward minus infinity; -/
def rowDiv (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 6#32 0#32)) (Scalar.extui (Scalar.cmpi .slt 6#32 0#32))))
      (IntOp.cmpi .ne (IntOp.remsi .vector w 6#32) 0#32))
    (IntOp.subi (IntOp.divsi .vector w 6#32) 1#32)
    (IntOp.divsi .vector w 6#32)

/-- its place, counted from zero: a remainder with the divisor's sign. -/
def rowMod (w : BitVec 32) : BitVec 32 :=
  Scalar.select
    (IntOp.andi
      (IntOp.xori
        (IntOp.cmpi .slt (IntOp.remsi .vector w (Scalar.select (Scalar.cmpi .eq 6#32 0#32) 1#32 6#32)) 0#32)
        (Scalar.cmpi .slt (Scalar.select (Scalar.cmpi .eq 6#32 0#32) 1#32 6#32) 0#32))
      (IntOp.cmpi .ne (IntOp.remsi .vector w (Scalar.select (Scalar.cmpi .eq 6#32 0#32) 1#32 6#32)) 0#32))
    (IntOp.addi (IntOp.remsi .vector w (Scalar.select (Scalar.cmpi .eq 6#32 0#32) 1#32 6#32))
      (Scalar.select (Scalar.cmpi .eq 6#32 0#32) 1#32 6#32))
    (IntOp.remsi .vector w (Scalar.select (Scalar.cmpi .eq 6#32 0#32) 1#32 6#32))

/-- Of a row's number below 384 they are the quotient and the remainder by six. -/
theorem rowDiv_eq : ∀ s : Fin 384, rowDiv (BitVec.ofNat 32 s.val) = BitVec.ofNat 32 (s.val / 6) := by decide +kernel
/-- The remainder as the program computes it. -/
theorem rowMod_eq : ∀ s : Fin 384, rowMod (BitVec.ofNat 32 s.val) = BitVec.ofNat 32 (s.val % 6) := by decide +kernel

/-- The device's number as the program computes it is its number. -/
theorem devWord_eq : ∀ c : Dev nD, devWord c = BitVec.ofNat 32 c.val := by decide +kernel

/-! ## Which row a token takes -/

/-- Token `i` has row `s`: it asks for the row's expert and has the row's place. -/
def Takes (route : IVec S512x1 32) (i : Fin 512) (s : ℕ) : Prop :=
  (expertOf route i).toNat = s / 6 ∧ place route i = s % 6 + 1

instance (route : IVec S512x1 32) (i : Fin 512) (s : ℕ) : Decidable (Takes route i s) :=
  inferInstanceAs (Decidable (_ ∧ _))

/-- A row is at most one token's; -/
theorem takes_token {route : IVec S512x1 32} {i j : Fin 512} {s : ℕ} (hi : Takes route i s) (hj : Takes route j s) : i = j :=
  place_inj route (BitVec.eq_of_toNat_eq (hi.1.trans hj.1.symm)) (hi.2.trans hj.2.symm)

/-- a token takes at most one row. -/
theorem takes_row {route : IVec S512x1 32} {i : Fin 512} {s t : ℕ} (hs : Takes route i s) (ht : Takes route i t) : s = t := by
  have h1 := hs.1.symm.trans ht.1
  have h2 := hs.2.symm.trans ht.2
  omega

/-- The program's flag for a token and a row says whether the token has the row. -/
theorem takes_flag (route : IVec S512x1 32) (i : Fin 512) (s : ℕ) (hs : s < 384) :
    (expertOf route i = BitVec.ofNat 32 (s / 6)
      ∧ k0_pay3 (F := Ideal) (k0_pay2 (F := Ideal) route) (ix2 i 0) = BitVec.ofNat 32 (s % 6) + 1#32) ↔ Takes route i s := by
  have hp := place_le route i
  have e1 : expertOf route i = BitVec.ofNat 32 (s / 6) ↔ (expertOf route i).toNat = s / 6 := by
    constructor
    · intro h; rw [h, BitVec.toNat_ofNat, Nat.mod_eq_of_lt (by omega)]
    · intro h; rw [← h, BitVec.ofNat_toNat, BitVec.setWidth_eq]
  have e2 : BitVec.ofNat 32 (s % 6) + 1#32 = BitVec.ofNat 32 (s % 6 + 1) := (BitVec.ofNat_add ..).symm
  rw [e1, e2, count_word, Takes]
  refine and_congr_right fun h => ?_
  rw [if_pos (by omega)]
  constructor
  · intro h'
    have := congrArg BitVec.toNat h'
    rw [BitVec.toNat_ofNat, BitVec.toNat_ofNat, Nat.mod_eq_of_lt (by omega), Nat.mod_eq_of_lt (by omega)] at this
    exact this
  · intro h'; rw [h']

/-- The matrix of the final product: one where the token has the row, zero elsewhere. -/
theorem pick_apply (route : IVec S512x1 32) (i : Fin 512) (s : Fin 384) :
    pick (F := Ideal) route (ix2 i s) = if Takes route i s.val then (1 : EReal) else 0 := by
  have h : pick (F := Ideal) route (ix2 i s) = FloatOps.sitofp (F := Ideal) FTy.f32 (BitVec.setWidth 32
      (IntOp.andi (IntOp.cmpi .eq (expertOf route i) (rowDiv (BitVec.ofNat 32 s.val)))
        (IntOp.cmpi .eq (k0_pay3 (F := Ideal) (k0_pay2 (F := Ideal) route) (ix2 i 0)) (rowMod (BitVec.ofNat 32 s.val) + 1#32)))) := by
    unfold pick
    generalize k0_pay3 (F := Ideal) (k0_pay2 (F := Ideal) route) = C
    pointwise [k0_pay1, k0_pay11, k0_pay9, k0_pay10]
    rfl
  rw [h, rowDiv_eq, rowMod_eq, flag_float]
  exact if_congr (by rw [flag_and, flag_eq, flag_eq, takes_flag route i s.val s.isLt]) rfl rfl

/-- The device's matrix: one where the token has the device's row `r`, zero elsewhere. -/
theorem mask_flag (c : Dev nD) (route : IVec S512x1 32) (j : Fin 512) (r : Fin 24) :
    (IntOp.andi (k0_pay4 (devWord c) (k0_pay1 (F := Ideal) route) (ix2 j r))
        (IntOp.cmpi .eq (k0_pay3 (F := Ideal) (k0_pay2 (F := Ideal) route) (ix2 j 0))
          (IntOp.addi (Scalar.select (k0_pay6 (ix2 j r)) (k0_pay7 (ix2 j r)) (k0_pay5 (ix2 j r))) 1#32)) = 1#1)
      ↔ Takes route j (24 * c.val + r.val) := by
  have hr := r.isLt
  have hc : c.val < 16 := c.isLt
  have e1 : k0_pay4 (devWord c) (k0_pay1 (F := Ideal) route) (ix2 j r)
      = IntOp.cmpi .eq (expertOf route j) (devWord c * 4#32 + rowDiv (BitVec.ofNat 32 r.val)) := by
    pointwise [k0_pay4, k0_pay1]
    rfl
  have e2 : Scalar.select (k0_pay6 (ix2 j r)) (k0_pay7 (ix2 j r)) (k0_pay5 (ix2 j r)) = rowMod (BitVec.ofNat 32 r.val) := by
    pointwise [k0_pay6, k0_pay7, k0_pay5]
    rfl
  have d1 := rowDiv_eq ⟨r.val, by omega⟩
  have d2 := rowMod_eq ⟨r.val, by omega⟩
  have q1 : (24 * c.val + r.val) / 6 = c.val * 4 + r.val / 6 := by omega
  have q2 : (24 * c.val + r.val) % 6 = r.val % 6 := by omega
  have e3 : devWord c * 4#32 + BitVec.ofNat 32 (r.val / 6) = BitVec.ofNat 32 ((24 * c.val + r.val) / 6) := by
    rw [devWord_eq, q1, BitVec.ofNat_add, BitVec.ofNat_mul]
  rw [e1, e2, d1, d2, e3, flag_and, flag_eq, flag_eq, ← takes_flag route j _ (by omega), q2]
  exact Iff.rfl

/-! ## A device's rows -/

/-- A device's `k`-th matrix, read at an entry. -/
theorem slab_apply (w : (cc0_stg2_0 : Ref sig .tc).ty.Contents (Elt Ideal)) (k : Fin 4) (d : Fin 256) (l : Fin 512) :
    slab w k (ix3 0 d l) = (w : S4x256x512.Idx → EReal) (ix3 k d l) := by
  refine congrArg (w : S4x256x512.Idx → EReal) (funext fun a => Fin.ext ?_)
  match a with
  | ⟨0, _⟩ => show k.val + 1 * 0 = k.val; omega
  | ⟨1, _⟩ => show 0 + 1 * d.val = d.val; omega
  | ⟨2, _⟩ => show 0 + 1 * l.val = l.val; omega

/-- A device's row: the activations of the token that has the row, times the row's matrix. -/
theorem rowsOf_apply (c : Dev nD) (x : S512x256.Idx → EReal) (route : IVec S512x1 32) (w : S4x256x512.Idx → EReal)
    (r : Fin 24) (l : Fin 512) :
    rowsOf (F := Ideal) c x route w (ix2 r l)
      = ∑ d : Fin 256, (∑ j : Fin 512, (if Takes route j (24 * c.val + r.val) then (1 : EReal) else 0) * x (ix2 j d))
          * w (ix3 ⟨r.val / 6, by omega⟩ d l) := by
  have hr := r.isLt
  unfold rowsOf
  have hm := mask_flag c route
  generalize k0_pay3 (F := Ideal) (k0_pay2 (F := Ideal) route) = C at hm ⊢
  generalize k0_pay4 (devWord c) (k0_pay1 (F := Ideal) route) = P at hm ⊢
  generalize k0_pay6 = P6 at hm ⊢
  generalize k0_pay7 = P7 at hm ⊢
  generalize k0_pay5 = P5 at hm ⊢
  pointwise [k0_pay8]
  simp only [flag_float, hm, slab_apply]
  have key : ∀ (s : ℕ) (k : Fin 4), s = r.val → k.val = r.val / 6 →
      (∑ d : Fin 256, (∑ j : Fin 512, (if Takes route j (24 * c.val + s) then (1 : EReal) else 0) * x (ix2 j d)) * w (ix3 k d l))
      = ∑ d : Fin 256, (∑ j : Fin 512, (if Takes route j (24 * c.val + r.val) then (1 : EReal) else 0) * x (ix2 j d))
          * w (ix3 ⟨r.val / 6, by omega⟩ d l) := by
    intro s k h1 h2
    subst h1
    rw [show k = ⟨r.val / 6, by omega⟩ from Fin.ext h2]
  split
  · exact key _ 0 rfl (by show 0 = _; omega)
  · split
    · exact key _ 1 (by omega) (by show 1 = _; omega)
    · split
      · exact key _ 2 (by omega) (by show 2 = _; omega)
      · exact key _ 3 (by omega) (by show 3 = _; omega)

end Cert.Exchange

end
-- ==== Proof.Result.lean ====
/-
# What every device's result holds

From the devices' inputs being one set of activations, one column of experts and the devices' blocks of one stack of
matrices: a token's row of the result is its activations times its expert's matrix if its number is an expert and its
place is among the first six, and zero otherwise.
-/
module

public import proofs.«01_k».proof.Proof.Rows
public import proofs.«01_k».proof.Proof.Body

@[expose] public section

set_option maxRecDepth 16384

noncomputable section

namespace Cert.Exchange

open Cert.KernelIdeal Cert.KernelIdeal.Gen
open Idealize.ShloMosaic
open Idealize.ShloMosaic.TcCoe
open Idealize.SL Idealize.SL.Sem
open scoped BigOperators

/-- The shape of the whole stack of matrices. -/
abbrev Whole : Shape := ⟨3, ![64, 256, 512]⟩

/-- Entry `l` of token `i`'s row of the result. -/
def answerAt (X : S512x256.Idx → EReal) (R : IVec S512x1 32) (W : Whole.Idx → EReal) (i l : Fin 512) : EReal :=
  if h : (expertOf R i).toNat < 64 ∧ place R i ≤ 6 then
    ∑ d : Fin 256, X (ix2 i d) * W (ix3 ⟨(expertOf R i).toNat, h.1⟩ d l)
  else 0

/-- The whole result. -/
def answer (X : S512x256.Idx → EReal) (R : IVec S512x1 32) (W : Whole.Idx → EReal) : S512x512.Idx → EReal :=
  fun k => answerAt X R W (k 0) (k 1)

section Devices

variable (m : (ℓ : Loc nD τ sig) → Buf (Elt Ideal) ℓ) (X : S512x256.Idx → EReal) (R : IVec S512x1 32) (W : Whole.Idx → EReal)

/-- The devices' inputs are `X`, `R` and the blocks of `W`. -/
structure Inputs : Prop where
  x : ∀ c : Dev nD, xAt m c = X
  route : ∀ c : Dev nD, routeAt m c = R
  w : ∀ (c : Dev nD) (k : Fin 4) (d : Fin 256) (l : Fin 512) (h : 4 * c.val + k.val < 64),
    (wAt m c : S4x256x512.Idx → EReal) (ix3 k d l) = W (ix3 ⟨4 * c.val + k.val, h⟩ d l)

variable {m X R W}

variable (m) in
/-- The table as an array of extended reals, -/
def tableAt : S384x512.Idx → EReal := table m

variable (m) in
/-- and a device's result as one. -/
def resultAt (c : Dev nD) : S512x512.Idx → EReal := outAt m c

/-- A row of the table: the activations of the token that has the row, times the row's expert's matrix. -/
theorem table_apply (hI : Inputs m X R W) (s : Fin 384) (l : Fin 512) :
    tableAt m (ix2 s l)
      = ∑ d : Fin 256, (∑ j : Fin 512, (if Takes R j s.val then (1 : EReal) else 0) * X (ix2 j d)) * W (ix3 ⟨s.val / 6, by omega⟩ d l) := by
  have hs := s.isLt
  have hc : s.val / 24 < 16 := by omega
  have e : tableAt m (ix2 s l) = rowsAt m ⟨s.val / 24, hc⟩ (ix2 ⟨s.val % 24, Nat.mod_lt _ (by decide)⟩ l) := by
    unfold tableAt; rw [ix2_eq_valueIdx, ix2_eq_valueIdx]; rfl
  rw [e, rowsAt, hI.x, hI.route, rowsOf_apply]
  have h1 : 24 * (s.val / 24) + s.val % 24 = s.val := Nat.div_add_mod ..
  have h2 : 4 * (s.val / 24) + s.val % 24 / 6 = s.val / 6 := by omega
  refine Finset.sum_congr rfl fun d _ => ?_
  rw [hI.w ⟨s.val / 24, hc⟩ _ d l (by show 4 * (s.val / 24) + s.val % 24 / 6 < 64; omega)]
  have h3 : (⟨4 * (s.val / 24) + s.val % 24 / 6, by omega⟩ : Fin 64) = ⟨s.val / 6, by omega⟩ := Fin.ext h2
  show (∑ j : Fin 512, (if Takes R j (24 * (s.val / 24) + s.val % 24) then (1 : EReal) else 0) * X (ix2 j d))
    * W (ix3 (⟨4 * (s.val / 24) + s.val % 24 / 6, by omega⟩ : Fin 64) d l) = _
  rw [h1, h3]

/-- A row of the table that a token has: that token's product. -/
theorem table_taken (hI : Inputs m X R W) {i : Fin 512} (s : Fin 384) (l : Fin 512) (h : Takes R i s.val) :
    tableAt m (ix2 s l) = ∑ d : Fin 256, X (ix2 i d) * W (ix3 ⟨s.val / 6, by omega⟩ d l) := by
  rw [table_apply hI]
  refine Finset.sum_congr rfl fun d _ => ?_
  rw [Finset.sum_eq_single i]
  · rw [if_pos h, one_mul]
  · intro j _ hj
    rw [if_neg fun h' => hj (takes_token h' h), zero_mul]
  · intro h'; exact absurd (Finset.mem_univ _) h'

/-- Every device's result is the whole result. -/
theorem resultAt_eq (hI : Inputs m X R W) (c : Dev nD) : resultAt m c = answer X R W := by
  funext k
  obtain ⟨i, l, rfl⟩ : ∃ (i : Fin 512) (l : Fin 512), k = ix2 i l := ⟨k 0, k 1, eq_ix2 k⟩
  show resultAt m c (ix2 i l) = answerAt X R W i l
  have e : resultAt m c (ix2 i l)
      = ∑ s : Fin 384, (if Takes R i s.val then (1 : EReal) else 0) * tableAt m (ix2 s l) := by
    unfold resultAt outAt tableAt
    generalize table m = T
    pointwise [k0_pay12]
    rw [hI.route]
    exact Finset.sum_congr rfl fun s _ => by rw [pick_apply]
  rw [e, answerAt]
  have hp := place_pos R i
  split
  · rename_i h
    have hs : 6 * (expertOf R i).toNat + (place R i - 1) < 384 := by omega
    have ht : Takes R i (6 * (expertOf R i).toNat + (place R i - 1)) := ⟨by omega, by omega⟩
    rw [Finset.sum_eq_single (⟨6 * (expertOf R i).toNat + (place R i - 1), hs⟩ : Fin 384)]
    · rw [if_pos ht, one_mul, table_taken hI _ l ht]
      have h3 : (⟨(6 * (expertOf R i).toNat + (place R i - 1)) / 6, by omega⟩ : Fin 64) = ⟨(expertOf R i).toNat, h.1⟩ := Fin.ext (by show (6 * (expertOf R i).toNat + (place R i - 1)) / 6 = (expertOf R i).toNat; omega)
      show ∑ d : Fin 256, X (ix2 i d) * W (ix3 (⟨(6 * (expertOf R i).toNat + (place R i - 1)) / 6, by omega⟩ : Fin 64) d l) = _
      rw [h3]
    · intro s _ hne
      rw [if_neg fun h' => hne (Fin.ext (takes_row h' ht)), zero_mul]
    · intro h'; exact absurd (Finset.mem_univ _) h'
  · rename_i h
    refine Finset.sum_eq_zero fun s _ => ?_
    have hs := s.isLt
    rw [if_neg, zero_mul]
    intro ht
    exact h ⟨by have := ht.1; omega, by have := ht.2; omega⟩

end Devices

end Cert.Exchange

end
-- ==== Proof.Reference.lean ====
/-
# What the reference computes

The reference ranks a token among the earlier ones that chose its expert, takes the matrix of the expert's number brought
into range, and keeps the product where the rank is below six and the number was in range.
-/
module

public import proofs.«01_k».proof.Proof.Result
public import proofs.«01_k».proof.Proof.Gen.ReferenceIdeal.Run
public import Idealize.ShloMosaic.Lib.IndicatorCount

@[expose] public section

set_option maxRecDepth 16384

noncomputable section

namespace Cert.Exchange.Ref

open Cert.ReferenceIdeal Cert.ReferenceIdeal.Gen
open Idealize.ShloMosaic
open Idealize.ShloMosaic.TcCoe
open scoped BigOperators

variable (X : S512x256.Idx → EReal) (R : IVec S512x1 32) (W : S64x256x512.Idx → EReal)

/-- The column of numbers as a vector. -/
def numbers : IVec S512 32 := shapeCast _ R shapeCasts_S512x1_S512

/-- The pairs of tokens with one number, the second the earlier one, counted along the second. -/
def ranks : IVec S512 32 :=
  Host.reduce IntOp.addi (extui 32 (andi
    (cmpi .eq (broadcastInDim S512x512 ![0, 1] bcast_S1x512_S512x512_0_1 (broadcastInDim S1x512 ![1] bcast_S512_S1x512_1 (numbers R)))
      (broadcastInDim S512x512 ![0, 1] bcast_S512x1_S512x512_0_1 (broadcastInDim S512x1 ![0] bcast_S512_S512x1_0 (numbers R))))
    (cmpi .slt (broadcastInDim S512x512 ![0, 1] bcast_S1x512_S512x512_0_1 (broadcastInDim S1x512 ![1] bcast_S512_S1x512_1 (iotaInDim S512 32 0)))
      (broadcastInDim S512x512 ![0, 1] bcast_S512x1_S512x512_0_1 (broadcastInDim S512x1 ![0] bcast_S512_S512x1_0 (iotaInDim S512 32 0))))) natLt_1_32)
    (constantI S_ 32 0#32) reducesTo_S512x512_S512_d1 h_S_

/-- The tokens that are kept. -/
def kept : IVec S512 1 :=
  andi (andi (cmpi .slt (ranks R) (broadcastInDim S512 ![] bcast_S_S512 (constantI S_ 32 6#32)))
    (cmpi .sge (numbers R) (broadcastInDim S512 ![] bcast_S_S512 (constantI S_ 32 0#32))))
    (cmpi .slt (numbers R) (broadcastInDim S512 ![] bcast_S_S512 (constantI S_ 32 64#32)))

/-- The numbers brought into range. -/
def clipped : IVec S512 32 :=
  minsi (broadcastInDim S512 ![] bcast_S_S512 (id (constantI S_ 32 63#32)))
    (maxsi (broadcastInDim S512 ![] bcast_S_S512 (id (constantI S_ 32 0#32))) (numbers R))

/-- The index of each token's matrix: a negative number would count from the end. -/
def index : IVec S512x1 32 :=
  broadcastInDim S512x1 ![0] bcast_S512_S512x1_0
    (select (cmpi .slt (clipped R) (broadcastInDim S512 ![] bcast_S_S512 (constantI S_ 32 0#32)))
      (addi (clipped R) (broadcastInDim S512 ![] bcast_S_S512 (constantI S_ 32 64#32))) (clipped R))

/-- Each token's matrix. -/
def matrices : FVec Ideal S512x256x512 .f32 :=
  Host.gather gather_S64x256x512_S512x1_S512x256x512_12_0_n_n_0_1_1256512
    (extf (F := Ideal) (φ := .bf16) .f32 W bitsLt_bf16_f32) (index R)

/-- The reference's result. -/
def result : FVec Ideal S512x512 .bf16 :=
  truncf .bf16 (select
    (broadcastInDim S512x512 ![0, 1] bcast_S512x1_S512x512_0_1 (broadcastInDim S512x1 ![0] bcast_S512_S512x1_0 (kept R)))
    (Host.dotGeneral dot_S512x256_S512x256x512_S512x512_1_1_n_2_0_0 none (extf (F := Ideal) (φ := .bf16) .f32 X bitsLt_bf16_f32) (matrices R W))
    (broadcastInDim S512x512 ![] bcast_S_S512x512 (id (constant S_ .f32 0x00000000#32)))) bitsLt_bf16_f32

/-- The vector's entries are the column's. -/
theorem numbers_apply (i : Fin 512) : numbers R (ix1 i) = expertOf R i := by
  pointwise [numbers]
  rfl

/-- The comparison of two tokens' numbers compares the tokens. -/
theorem flag_lt (i j : Fin 512) : IntOp.cmpi .slt (BitVec.ofNat 32 j.val) (BitVec.ofNat 32 i.val) = 1#1 ↔ j < i := by
  have hi := i.isLt
  have hj := j.isLt
  rw [WordCmp.cmpi_slt_ofNat_eq_one_iff (w := 32) (by norm_num; omega) (by norm_num; omega)]
  exact Iff.rfl

/-- A token's rank is one less than its place: the token itself is not counted. -/
theorem ranks_apply (i : Fin 512) : ranks R (ix1 i) = BitVec.ofNat 32 (place R i - 1) := by
  have h : ranks R (ix1 i) = Finset.univ.fold IntOp.addi (0#32) (fun j : Fin 512 => BitVec.setWidth 32
      (IntOp.andi (IntOp.cmpi .eq (numbers R (ix1 j)) (numbers R (ix1 i))) (IntOp.cmpi .slt (BitVec.ofNat 32 j.val) (BitVec.ofNat 32 i.val)))) := by
    pointwise [ranks]
  have e : (Finset.univ.filter fun j : Fin 512 => IntOp.andi (IntOp.cmpi .eq (numbers R (ix1 j)) (numbers R (ix1 i)))
      (IntOp.cmpi .slt (BitVec.ofNat 32 j.val) (BitVec.ofNat 32 i.val)) = 1#1) = (sameUpTo R i).erase i := by
    ext j
    simp only [sameUpTo, Finset.mem_filter, Finset.mem_univ, true_and, Finset.mem_erase, flag_and, flag_eq, flag_lt, numbers_apply]
    constructor
    · rintro ⟨h1, h2⟩; exact ⟨h2.ne, h1, h2.le⟩
    · rintro ⟨h0, h1, h2⟩; exact ⟨h1, lt_of_le_of_ne h2 h0⟩
  rw [h, IndicatorCount.fold_addi_setWidth_eq_card, e,
    Finset.card_erase_of_mem (s := sameUpTo R i) (a := i) (Finset.mem_filter.mpr ⟨Finset.mem_univ _, rfl, le_refl _⟩)]
  rfl

/-- A number is at least zero and below 64, both read with a sign, exactly when it is below 64 read without one. -/
theorem in_range (w : BitVec 32) : (0 ≤ w.toInt ∧ w.toInt < 64) ↔ w.toNat < 64 := by
  have hw := w.isLt
  rw [BitVec.toInt_eq_toNat_cond]
  split <;> omega

/-- The kept tokens are those with an expert and a place among the first six. -/
theorem kept_apply (i : Fin 512) : kept R (ix1 i) = 1#1 ↔ (expertOf R i).toNat < 64 ∧ place R i ≤ 6 := by
  have h : kept R (ix1 i) = IntOp.andi (IntOp.andi (IntOp.cmpi .slt (ranks R (ix1 i)) 6#32) (IntOp.cmpi .sge (numbers R (ix1 i)) 0#32))
      (IntOp.cmpi .slt (numbers R (ix1 i)) 64#32) := by
    pointwise [kept]
  have hp := place_le R i
  have hq := place_pos R i
  have e1 : IntOp.cmpi .slt (BitVec.ofNat 32 (place R i - 1)) 6#32 = 1#1 ↔ place R i ≤ 6 := by
    rw [show (6#32 : BitVec 32) = BitVec.ofNat 32 6 from rfl,
      WordCmp.cmpi_slt_ofNat_eq_one_iff (w := 32) (by norm_num; omega) (by norm_num)]
    omega
  have e2 : IntOp.cmpi .sge (expertOf R i) 0#32 = 1#1 ↔ 0 ≤ (expertOf R i).toInt := by
    rw [WordCmp.cmpi_sge_eq, WordArith.ofBool_eq_one_iff, decide_eq_true_iff]; exact Iff.rfl
  have e3 : IntOp.cmpi .slt (expertOf R i) 64#32 = 1#1 ↔ (expertOf R i).toInt < 64 := by
    rw [WordCmp.cmpi_slt_eq, WordArith.ofBool_eq_one_iff, decide_eq_true_iff]; exact Iff.rfl
  rw [h, ranks_apply, numbers_apply, flag_and, flag_and, e1, e2, e3, ← in_range]
  tauto

/-- A number that is an expert's is its own index. -/
theorem index_apply (i : Fin 512) (hv : (expertOf R i).toNat < 64) : index R (ix2 i 0) = expertOf R i := by
  have h : index R (ix2 i 0) = (fun w : BitVec 32 => Scalar.select (IntOp.cmpi .slt (IntOp.minsi 63#32 (IntOp.maxsi 0#32 w)) 0#32)
      (IntOp.addi (IntOp.minsi 63#32 (IntOp.maxsi 0#32 w)) 64#32) (IntOp.minsi 63#32 (IntOp.maxsi 0#32 w))) (expertOf R i) := by
    rw [← numbers_apply]
    pointwise [index, clipped]
    rfl
  rw [h]
  have e : expertOf R i = BitVec.ofNat 32 (expertOf R i).toNat := by rw [BitVec.ofNat_toNat, BitVec.setWidth_eq]
  rw [e]
  exact (by decide +kernel : ∀ n : Fin 64, (fun w : BitVec 32 => Scalar.select (IntOp.cmpi .slt (IntOp.minsi 63#32 (IntOp.maxsi 0#32 w)) 0#32)
      (IntOp.addi (IntOp.minsi 63#32 (IntOp.maxsi 0#32 w)) 64#32) (IntOp.minsi 63#32 (IntOp.maxsi 0#32 w))) (BitVec.ofNat 32 n.val)
        = BitVec.ofNat 32 n.val) ⟨(expertOf R i).toNat, hv⟩

/-- The gather reads, of the stack's matrices, the one at the token's index. -/
theorem gather_apply (V : S64x256x512.Idx → EReal) (I : IVec S512x1 32) (i : Fin 512) (d : Fin 256) (l : Fin 512) (n : Fin 64)
    (hn : I (ix2 i 0) = BitVec.ofNat 32 n.val) :
    Host.gather gather_S64x256x512_S512x1_S512x256x512_12_0_n_n_0_1_1256512 V I (ix3 i d l) = V (ix3 n d l) := by
  unfold Host.gather
  refine congrArg V (funext fun a => Fin.ext ?_)
  set G := gather_S64x256x512_S512x1_S512x256x512_12_0_n_n_0_1_1256512 with hG
  show G.start (ix3 i d l) I a + G.batchCoord (ix3 i d l) a + G.offCoord (ix3 i d l) a = _
  rw [GatherDims.batchCoord_eq_zero _ _ _ (by rw [hG]; exact List.not_mem_nil)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S64x256x512.rank) ∈ G.startIndexMap from List.mem_singleton.mpr rfl)]
    have hsi : G.siIdx (ix3 i d l) ⟨List.idxOf (0 : Fin 3) G.startIndexMap,
        List.idxOf_lt_length_iff.2 (List.mem_singleton.mpr rfl)⟩ = ix2 i 0 := by
      funext b; refine Fin.ext ?_
      match b with
      | ⟨0, _⟩ => rfl
      | ⟨1, _⟩ => rfl
    have hlt := n.isLt
    have ht : (BitVec.ofNat 32 n.val).toInt = n.val := WordArith.toInt_ofNat_small n.val (by omega)
    refine (congrArg (fun z => min (I z).toInt.toNat (64 - 1) + 0 + 0) hsi).trans ?_
    show min (I (ix2 i 0)).toInt.toNat (64 - 1) + 0 + 0 = n.val
    rw [hn, ht, Int.toNat_natCast]
    omega
  | ⟨1, _⟩ =>
    unfold GatherDims.start
    rw [dif_neg (show ¬ (⟨1, by decide⟩ : Fin S64x256x512.rank) ∈ G.startIndexMap from by rw [hG]; decide)]
    show 0 + 0 + d.val = d.val
    omega
  | ⟨2, _⟩ =>
    unfold GatherDims.start
    rw [dif_neg (show ¬ (⟨2, by decide⟩ : Fin S64x256x512.rank) ∈ G.startIndexMap from by rw [hG]; decide)]
    show 0 + 0 + l.val = l.val
    omega

/-- The reference's result is the whole result. -/
theorem result_eq : (result X R W : S512x512.Idx → EReal) = answer X R W := by
  funext k
  obtain ⟨i, l, rfl⟩ : ∃ (i : Fin 512) (l : Fin 512), k = ix2 i l := ⟨k 0, k 1, eq_ix2 k⟩
  show _ = answerAt X R W i l
  have h : result X R W (ix2 i l) = Scalar.select (kept R (ix1 i)) (∑ d : Fin 256, X (ix2 i d) * matrices R W (ix3 i d l)) (0 : EReal) := by
    pointwise [result]
    show Scalar.select _ _ (Ideal.ofBits .f32 0x00000000#32) = _
    rw [Ideal.ofBits_zero_f32]
  have hk := kept_apply R i
  refine h.trans ?_
  rw [answerAt]
  split
  · rename_i hv
    rw [hk.mpr hv]
    show (∑ d : Fin 256, X (ix2 i d) * matrices R W (ix3 i d l) : EReal) = _
    refine Finset.sum_congr rfl fun d _ => congrArg (X (ix2 i d) * ·) ?_
    exact gather_apply W (index R) i d l ⟨(expertOf R i).toNat, hv.1⟩ (by
      rw [index_apply R i hv.1]
      show _ = BitVec.ofNat 32 (expertOf R i).toNat
      rw [BitVec.ofNat_toNat, BitVec.setWidth_eq])
  · rename_i hv
    have h0 : kept R (ix1 i) = 0#1 := by
      have : ¬ kept R (ix1 i) = 1#1 := fun h' => hv (hk.mp h')
      revert this
      generalize kept R (ix1 i) = b
      revert b; decide
    rw [h0]
    rfl

end Cert.Exchange.Ref

end
-- ==== Proof.Algebraic.lean ====
module

public import proofs.«01_k».proof.Proof.Frames
public import proofs.«01_k».proof.Proof.Reference

@[expose] public section

/-!
  The results agree over the extended reals: every device of the kernel ends with the one array the reference ends with.

  Each of the kernel's four windows is one whole array, so what is staged is the argument itself and what is written
  back is the whole result.
-/

noncomputable section

namespace Cert.Exchange

open Cert.KernelIdeal Cert.KernelIdeal.Gen

open Idealize.ShloMosaic
open Idealize.ShloMosaic.TcCoe
open Idealize.ShloMosaic.Pipeline (Dat)
open Idealize.SL Idealize.SL.Sem

section Windows

variable {F : FTy → Type} [FloatOps F] (m : (ℓ : Loc nD τ sig) → Buf (Elt F) ℓ) (c : Dev nD)

/-- The activations staged are the first argument, -/
theorem xAt_eq : xAt m c = m ((c.tc : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- the route staged the third, -/
theorem routeAt_eq : routeAt m c = m ((c.tc : Thread nD τ).loc main_arg2) :=
  Memref.read_access_unit_zero (Elt F) main_arg2 (off := fun a => (win0_1.index (0 : Fin 1)) a * main_arg2.ty.shape.size a)
    (funext fun a => by fin_cases a <;> decide) (fun a => by fin_cases a <;> decide) _

/-- and the matrices staged the fourth. -/
theorem wAt_eq : wAt m c = m ((c.tc : Thread nD τ).loc main_arg3) :=
  Memref.read_access_unit_zero (Elt F) main_arg3 (off := fun a => (win0_2.index (0 : Fin 1)) a * main_arg3.ty.shape.size a)
    (funext fun a => by fin_cases a <;> decide) (fun a => by fin_cases a <;> decide) _

/-- The result window's block is the whole array: reading it reads the array. -/
theorem read_result (t : Fin cfg0.N) (f : Buf (Elt F) ((cfg0.win (3 : Fin 4)).arr.view.loc (c.tc : Thread nD τ))) :
    ((cfg0.win (3 : Fin 4)).blk t).view.read (Elt F) f = f := by
  obtain rfl := fin_N0 t
  exact Memref.read_access_unit_zero (Elt F) main_v1 (off := fun a => (win0_3.index (0 : Fin 1)) a * main_v1.ty.shape.size a)
    (funext fun a => by fin_cases a <;> decide) (fun a => by fin_cases a <;> decide) _

/-- The result array ends holding what the body leaves in its staging buffer. -/
theorem final_eq : (dats m 0 c).arrAt (3 : Fin 4) cfg0.N = outAt m c := by
  have hG : ∀ t, (cfg0.win (3 : Fin 4)).flush t = true →
      (dats m 0 c).flushed (3 : Fin 4) t = ((cfg0.win (3 : Fin 4)).blk t).view.read (Elt F) (outAt m c) := fun t _ => by
    refine Eq.trans ?_ (read_result c t _).symm
    obtain rfl := fin_N0 t
    rfl
  have h := (dats m 0 c).read_blk_arrAt (3 : Fin 4) (outAt m c) hG t0_0 (flush0_3 _)
  rwa [read_result c, read_result c] at h

end Windows

/-- The kernel and the reference, run from matching arguments, end with the same result. -/
theorem algebraic : Cert.algebraic_KernelIdeal_ReferenceIdeal := by
  intro m g m' g' _ hagree
  set X : S512x256.Idx → EReal := m' (((0 : Dev Cert.ReferenceIdeal.nD).tc : Thread Cert.ReferenceIdeal.nD Cert.ReferenceIdeal.τ).loc Cert.ReferenceIdeal.main_arg0) with hX
  set R : IVec S512x1 32 := m' (((0 : Dev Cert.ReferenceIdeal.nD).tc : Thread Cert.ReferenceIdeal.nD Cert.ReferenceIdeal.τ).loc Cert.ReferenceIdeal.main_arg2) with hR
  set W : Whole.Idx → EReal := m' (((0 : Dev Cert.ReferenceIdeal.nD).tc : Thread Cert.ReferenceIdeal.nD Cert.ReferenceIdeal.τ).loc Cert.ReferenceIdeal.main_arg3) with hW
  have hI : Inputs m X R W := by
    refine ⟨fun c => (xAt_eq m c).trans (hagree c).1, fun c => (routeAt_eq m c).trans (hagree c).2.2.1, fun c k d l h => ?_⟩
    refine (congrFun ((wAt_eq m c).trans (hagree c).2.2.2) (ix3 k d l)).trans ?_
    refine congrArg W (funext fun a => Fin.ext ?_)
    match a with
    | ⟨0, _⟩ => show c.val * 4 + k.val = 4 * c.val + k.val; omega
    | ⟨1, _⟩ => rfl
    | ⟨2, _⟩ => rfl
  refine ⟨answer X R W, ?_, ?_⟩
  · exact (θ_run defs _ _).mono (fun _ h c => ⟨((h.1 c).1.trans (final_eq m c)).trans (resultAt_eq hI c), (h.1 c).2⟩)
      (run_values (F := Ideal) m g)
  · exact (θ_run Cert.ReferenceIdeal.defs _ _).mono (fun _ h => ⟨(h 0).1.trans (Ref.result_eq X R W), (h 0).2⟩)
      (Cert.ReferenceIdeal.Value.run (F := Ideal) m' g')

end Cert.Exchange

end
-- ==== Proof.lean ====
module

public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
